-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gating_KernelIdeal [hPre_finite_gating_KernelIdeal : Cert.Pre_finite_gating_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gating_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_gating_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gating_ReferenceIdeal [hPre_finite_gating_ReferenceIdeal : Cert.Pre_finite_gating_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gating_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_gating_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gating_KernelIdeal [hKernelIdeal : Cert.KernelIdeal.Facts] [hPre_finite_gating_KernelIdeal : Cert.Pre_finite_gating_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gating_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gating_ReferenceIdeal [hReferenceIdeal : Cert.ReferenceIdeal.Facts] [hPre_finite_gating_ReferenceIdeal : Cert.Pre_finite_gating_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gating_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_gating_KernelIdeal [hKernelIdeal : Cert.KernelIdeal.Facts] [hReferenceIdeal : Cert.ReferenceIdeal.Facts] [hPre_finite_gating_KernelIdeal : Cert.Pre_finite_gating_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gating_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 512]⟩ ⟨2, ![512, 512]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v162) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gating_KernelIdeal : Cert.Pre_finite_gating_KernelIdeal.Facts) (hPre_finite_gating_ReferenceIdeal : Cert.Pre_finite_gating_ReferenceIdeal.Facts),
    quiescent_Kernel (hKernel := hKernel)
    ∧ quiescent_KernelIdeal (hKernelIdeal := hKernelIdeal)
    ∧ quiescent_KernelIdeal_pre_finite_gating_KernelIdeal (hKernelIdeal := hKernelIdeal) (hPre_finite_gating_KernelIdeal := hPre_finite_gating_KernelIdeal)
    ∧ quiescent_ReferenceIdeal (hReferenceIdeal := hReferenceIdeal)
    ∧ quiescent_ReferenceIdeal_pre_finite_gating_ReferenceIdeal (hReferenceIdeal := hReferenceIdeal) (hPre_finite_gating_ReferenceIdeal := hPre_finite_gating_ReferenceIdeal)
    ∧ preserves_Kernel_KernelIdeal
    ∧ algebraic_KernelIdeal_ReferenceIdeal_pre_finite_gating_KernelIdeal (hKernelIdeal := hKernelIdeal) (hReferenceIdeal := hReferenceIdeal) (hPre_finite_gating_KernelIdeal := hPre_finite_gating_KernelIdeal)
-- ==== Pre_finite_gating_KernelIdeal.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S_ : Shape := ⟨0, ![]⟩

class Facts : Prop where
  bitsLt_bf16_f32 : FTy.bits .bf16 < FTy.bits .f32
  bcast_S_S256x512 : S_.BroadcastsInDim S256x512 (![] : Fin 0 → Fin S256x512.rank)
  bcast_S_S512x2 : S_.BroadcastsInDim S512x2 (![] : Fin 0 → Fin S512x2.rank)

variable [Facts]

def fn {F : FTy → Type} [FloatOps F] (main_arg0 : FVec F S256x512 .bf16) (main_arg1 : FVec F S512x2 .bf16) (main_arg2 : FVec F S2x512x1024 .bf16) (main_arg3 : FVec F S2x1024x512 .bf16) : IVec S256x512 1 × IVec S512x2 1 :=
  let main_v0 : FVec F S256x512 .f32 := (extf .f32 · bitsLt_bf16_f32) main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S256x512 .f32 := (extf .f32 · bitsLt_bf16_f32) main_arg0
  let main_cst_0 : FVec F S_ .f32 := constant S_ .f32 0xFF800000#32
  let main_v4 : FVec F S256x512 .f32 := broadcastInDim S256x512 ![] bcast_S_S256x512 main_cst_0
  let main_v5 : IVec S256x512 1 := cmpf .ogt main_v3 main_v4
  let main_v6 : IVec S256x512 1 := andi main_v2 main_v5
  let main_v7 : FVec F S512x2 .f32 := (extf .f32 · bitsLt_bf16_f32) main_arg1
  let main_cst_1 : FVec F S_ .f32 := constant S_ .f32 0x7F800000#32
  let main_v8 : FVec F S512x2 .f32 := broadcastInDim S512x2 ![] bcast_S_S512x2 main_cst_1
  let main_v9 : IVec S512x2 1 := cmpf .olt main_v7 main_v8
  let main_v10 : FVec F S512x2 .f32 := (extf .f32 · bitsLt_bf16_f32) main_arg1
  let main_cst_2 : FVec F S_ .f32 := constant S_ .f32 0xFF800000#32
  let main_v11 : FVec F S512x2 .f32 := broadcastInDim S512x2 ![] bcast_S_S512x2 main_cst_2
  let main_v12 : IVec S512x2 1 := cmpf .ogt main_v10 main_v11
  let main_v13 : IVec S512x2 1 := andi main_v9 main_v12
  (main_v6, main_v13)
-- ==== Pre_finite_gating_ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S_ : Shape := ⟨0, ![]⟩

class Facts : Prop where
  bitsLt_bf16_f32 : FTy.bits .bf16 < FTy.bits .f32
  bcast_S_S512x512 : S_.BroadcastsInDim S512x512 (![] : Fin 0 → Fin S512x512.rank)
  bcast_S_S512x4 : S_.BroadcastsInDim S512x4 (![] : Fin 0 → Fin S512x4.rank)

variable [Facts]

def fn {F : FTy → Type} [FloatOps F] (main_arg0 : FVec F S512x512 .bf16) (main_arg1 : FVec F S512x4 .bf16) (main_arg2 : FVec F S4x512x1024 .bf16) (main_arg3 : FVec F S4x1024x512 .bf16) : IVec S512x512 1 × IVec S512x4 1 :=
  let main_v0 : FVec F S512x512 .f32 := (extf .f32 · bitsLt_bf16_f32) main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_v3 : FVec F S512x512 .f32 := (extf .f32 · bitsLt_bf16_f32) main_arg0
  let main_cst_0 : FVec F S_ .f32 := constant S_ .f32 0xFF800000#32
  let main_v4 : FVec F S512x512 .f32 := broadcastInDim S512x512 ![] bcast_S_S512x512 main_cst_0
  let main_v5 : IVec S512x512 1 := cmpf .ogt main_v3 main_v4
  let main_v6 : IVec S512x512 1 := andi main_v2 main_v5
  let main_v7 : FVec F S512x4 .f32 := (extf .f32 · bitsLt_bf16_f32) main_arg1
  let main_cst_1 : FVec F S_ .f32 := constant S_ .f32 0x7F800000#32
  let main_v8 : FVec F S512x4 .f32 := broadcastInDim S512x4 ![] bcast_S_S512x4 main_cst_1
  let main_v9 : IVec S512x4 1 := cmpf .olt main_v7 main_v8
  let main_v10 : FVec F S512x4 .f32 := (extf .f32 · bitsLt_bf16_f32) main_arg1
  let main_cst_2 : FVec F S_ .f32 := constant S_ .f32 0xFF800000#32
  let main_v11 : FVec F S512x4 .f32 := broadcastInDim S512x4 ![] bcast_S_S512x4 main_cst_2
  let main_v12 : IVec S512x4 1 := cmpf .ogt main_v10 main_v11
  let main_v13 : IVec S512x4 1 := andi main_v9 main_v12
  (main_v6, main_v13)
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S2x128x512 : Shape := ⟨3, ![2, 128, 512]⟩
abbrev S2x512 : Shape := ⟨2, ![2, 512]⟩
abbrev S5 : Shape := ⟨1, ![5]⟩
abbrev S_ : Shape := ⟨0, ![]⟩
abbrev S1 : Shape := ⟨1, ![1]⟩
abbrev S1x128x512 : Shape := ⟨3, ![1, 128, 512]⟩
abbrev S128x512 : Shape := ⟨2, ![128, 512]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S128x2 : Shape := ⟨2, ![128, 2]⟩
abbrev S128x1 : Shape := ⟨2, ![128, 1]⟩
abbrev S128x1024 : Shape := ⟨2, ![128, 1024]⟩
abbrev S256x2 : Shape := ⟨2, ![256, 2]⟩
abbrev S256x1 : Shape := ⟨2, ![256, 1]⟩
abbrev S256x1024 : Shape := ⟨2, ![256, 1024]⟩

abbrev nBuf : Space → Nat
  | .hbm => 5
  | .vmem => 11
  | .smem => 0
  | _ => 0

abbrev bufTy : (tb : Table) → Fin (tcTables nBuf tb) → BufTy
  | .hbm, ⟨0, _⟩ => ⟨S256x512, .bf16⟩
  | .hbm, ⟨1, _⟩ => ⟨S512x2, .bf16⟩
  | .hbm, ⟨2, _⟩ => ⟨S2x512x1024, .bf16⟩
  | .hbm, ⟨3, _⟩ => ⟨S2x1024x512, .bf16⟩
  | .hbm, ⟨4, _⟩ => ⟨S256x512, .f32⟩
  | .local _ .vmem, ⟨0, _⟩ => ⟨S256x512, .bf16⟩
  | .local _ .vmem, ⟨1, _⟩ => ⟨S512x2, .bf16⟩
  | .local _ .vmem, ⟨2, _⟩ => ⟨S2x512x1024, .bf16⟩
  | .local _ .vmem, ⟨3, _⟩ => ⟨S2x1024x512, .bf16⟩
  | .local _ .vmem, ⟨4, _⟩ => ⟨S256x512, .f32⟩
  | .local _ .vmem, ⟨5, _⟩ => ⟨S2x128x512, .bf16⟩
  | .local _ .vmem, ⟨6, _⟩ => ⟨S2x128x512, .bf16⟩
  | .local _ .vmem, ⟨7, _⟩ => ⟨S2x512, .bf16⟩
  | .local _ .vmem, ⟨8, _⟩ => ⟨S2x512, .bf16⟩
  | .local _ .vmem, ⟨9, _⟩ => ⟨S2x128x512, .bf16⟩
  | .local _ .vmem, ⟨10, _⟩ => ⟨S2x128x512, .bf16⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v16 : BitVec 32 := Scalar.muli v9 c1_i32_8
  let v17 : BitVec 32 := Scalar.addi v15 v16
  v17.toNat
def k0_dev2 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v30 : BitVec 32 := Scalar.muli v2 c4_i32_20
  let v31 : BitVec 32 := Scalar.addi c0_i32_21 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v32 : BitVec 32 := Scalar.muli v5 c2_i32_22
  let v33 : BitVec 32 := Scalar.addi v31 v32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_23 : BitVec 32 := 1#32
  let v34 : BitVec 32 := Scalar.muli v9 c1_i32_23
  let v35 : BitVec 32 := Scalar.addi v33 v34
  v35.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v40 : BitVec 32 := Scalar.muli v2 c4_i32_28
  let v41 : BitVec 32 := Scalar.addi c0_i32_29 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v42 : BitVec 32 := Scalar.muli v5 c2_i32_30
  let v43 : BitVec 32 := Scalar.addi v41 v42
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_31 : BitVec 32 := 1#32
  let v44 : BitVec 32 := Scalar.muli v9 c1_i32_31
  let v45 : BitVec 32 := Scalar.addi v43 v44
  v45.toNat
def k0_dev4 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v54 : BitVec 32 := Scalar.muli v2 c4_i32_40
  let v55 : BitVec 32 := Scalar.addi c0_i32_41 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v56 : BitVec 32 := Scalar.muli v5 c2_i32_42
  let v57 : BitVec 32 := Scalar.addi v55 v56
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_43 : BitVec 32 := 1#32
  let v58 : BitVec 32 := Scalar.muli v9 c1_i32_43
  let v59 : BitVec 32 := Scalar.addi v57 v58
  v59.toNat
def k0_dev5 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v241 : BitVec 32 := Scalar.muli v2 c4_i32_146
  let v242 : BitVec 32 := Scalar.addi c0_i32_147 v241
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v243 : BitVec 32 := Scalar.muli v5 c2_i32_148
  let v244 : BitVec 32 := Scalar.addi v242 v243
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_149 : BitVec 32 := 1#32
  let v245 : BitVec 32 := Scalar.muli v9 c1_i32_149
  let v246 : BitVec 32 := Scalar.addi v244 v245
  v246.toNat
def k0_dev6 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v410 : BitVec 32 := Scalar.muli v2 c4_i32_234
  let v411 : BitVec 32 := Scalar.addi c0_i32_235 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_236 : BitVec 32 := 2#32
  let v412 : BitVec 32 := Scalar.muli v5 c2_i32_236
  let v413 : BitVec 32 := Scalar.addi v411 v412
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_237 : BitVec 32 := 1#32
  let v414 : BitVec 32 := Scalar.muli v9 c1_i32_237
  let v415 : BitVec 32 := Scalar.addi v413 v414
  v415.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512x2x1 : Shape := ⟨3, ![512, 2, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 241
  | .vmem => 0
  | .smem => 0
  | _ => 0

abbrev hbmTy0_0 (i : Nat) : BufTy := match i % 128 with
  | 0 => ⟨S512x512, .bf16⟩
  | 1 => ⟨S512x4, .bf16⟩
  | 2 => ⟨S4x512x1024, .bf16⟩
  | 3 => ⟨S4x1024x512, .bf16⟩
  | 4 => ⟨S512x512, .f32⟩
  | 5 => ⟨S512x4, .f32⟩
  | 6 => ⟨S4x512x1024, .f32⟩
  | 7 => ⟨S4x1024x512, .f32⟩
  | 8 => ⟨S512x4, .f32⟩
  | 9 => ⟨S512x4, .f32⟩
  | 10 => ⟨S512x4, .i32⟩
  | 11 => ⟨S512x4, .f32⟩
  | 12 => ⟨S512x4, .i32⟩
  | 13 => ⟨S512x2, .i32⟩
  | 14 => ⟨S_, .i32⟩
  | 15 => ⟨S512x2, .i32⟩
  | 16 => ⟨S512x2, .i1⟩
  | 17 => ⟨S_, .i32⟩
  | 18 => ⟨S512x2, .i32⟩
  | 19 => ⟨S512x2, .i32⟩
  | 20 => ⟨S512x2, .i32⟩
  | 21 => ⟨S512x2x1, .i32⟩
  | 22 => ⟨S1, .i32⟩
  | 23 => ⟨S_, .i32⟩
  | 24 => ⟨S512x2x1, .i32⟩
  | 25 => ⟨S512x2x1, .i1⟩
  | 26 => ⟨S1x1x1, .i32⟩
  | 27 => ⟨S512x2x1, .i32⟩
  | 28 => ⟨S512x2x1, .i1⟩
  | 29 => ⟨S512x2x1, .i1⟩
  | 30 => ⟨S_, .i1⟩
  | 31 => ⟨S512x2, .i1⟩
  | 32 => ⟨S512x2, .f32⟩
  | 33 => ⟨S_, .f32⟩
  | 34 => ⟨S512x2, .f32⟩
  | 35 => ⟨S512x2, .f32⟩
  | 36 => ⟨S_, .f32⟩
  | 37 => ⟨S512, .f32⟩
  | 38 => ⟨S512x1, .f32⟩
  | 39 => ⟨S512x2, .f32⟩
  | 40 => ⟨S512x2, .f32⟩
  | 41 => ⟨S512x2, .f32⟩
  | 42 => ⟨S_, .f32⟩
  | 43 => ⟨S512, .f32⟩
  | 44 => ⟨S512x1, .f32⟩
  | 45 => ⟨S512x2, .f32⟩
  | 46 => ⟨S512x2, .f32⟩
  | 47 => ⟨S_, .f32⟩
  | 48 => ⟨S512x512, .f32⟩
  | 49 => ⟨S512x1, .i32⟩
  | 50 => ⟨S512, .i32⟩
  | 51 => ⟨S_, .i32⟩
  | 52 => ⟨S512, .i32⟩
  | 53 => ⟨S512, .i1⟩
  | 54 => ⟨S1x512x1024, .f32⟩
  | 55 => ⟨S512x1024, .f32⟩
  | 56 => ⟨S512x1024, .f32⟩
  | 57 => ⟨S_, .f32⟩
  | 58 => ⟨S512x1024, .f32⟩
  | 59 => ⟨S512x1024, .f32⟩
  | 60 => ⟨S512x1, .i1⟩
  | 61 => ⟨S1x1024x512, .f32⟩
  | 62 => ⟨S1024x512, .f32⟩
  | 63 => ⟨S512x512, .f32⟩
  | 64 => ⟨S512x1, .f32⟩
  | 65 => ⟨S512x512, .f32⟩
  | 66 => ⟨S512x512, .f32⟩
  | 67 => ⟨S_, .f32⟩
  | 68 => ⟨S_, .f32⟩
  | 69 => ⟨S512x512, .i1⟩
  | 70 => ⟨S512x512, .f32⟩
  | 71 => ⟨S512x512, .f32⟩
  | 72 => ⟨S512x512, .f32⟩
  | 73 => ⟨S512x1, .i32⟩
  | 74 => ⟨S512, .i32⟩
  | 75 => ⟨S_, .i32⟩
  | 76 => ⟨S512, .i32⟩
  | 77 => ⟨S512, .i1⟩
  | 78 => ⟨S1x512x1024, .f32⟩
  | 79 => ⟨S512x1024, .f32⟩
  | 80 => ⟨S512x1024, .f32⟩
  | 81 => ⟨S_, .f32⟩
  | 82 => ⟨S512x1024, .f32⟩
  | 83 => ⟨S512x1024, .f32⟩
  | 84 => ⟨S512x1, .i1⟩
  | 85 => ⟨S1x1024x512, .f32⟩
  | 86 => ⟨S1024x512, .f32⟩
  | 87 => ⟨S512x512, .f32⟩
  | 88 => ⟨S512x1, .f32⟩
  | 89 => ⟨S512x512, .f32⟩
  | 90 => ⟨S512x512, .f32⟩
  | 91 => ⟨S_, .f32⟩
  | 92 => ⟨S_, .f32⟩
  | 93 => ⟨S512x512, .i1⟩
  | 94 => ⟨S512x512, .f32⟩
  | 95 => ⟨S512x512, .f32⟩
  | 96 => ⟨S512x512, .f32⟩
  | 97 => ⟨S512x1, .i32⟩
  | 98 => ⟨S512, .i32⟩
  | 99 => ⟨S_, .i32⟩
  | 100 => ⟨S512, .i32⟩
  | 101 => ⟨S512, .i1⟩
  | 102 => ⟨S1x512x1024, .f32⟩
  | 103 => ⟨S512x1024, .f32⟩
  | 104 => ⟨S512x1024, .f32⟩
  | 105 => ⟨S_, .f32⟩
  | 106 => ⟨S512x1024, .f32⟩
  | 107 => ⟨S512x1024, .f32⟩
  | 108 => ⟨S512x1, .i1⟩
  | 109 => ⟨S1x1024x512, .f32⟩
  | 110 => ⟨S1024x512, .f32⟩
  | 111 => ⟨S512x512, .f32⟩
  | 112 => ⟨S512x1, .f32⟩
  | 113 => ⟨S512x512, .f32⟩
  | 114 => ⟨S512x512, .f32⟩
  | 115 => ⟨S_, .f32⟩
  | 116 => ⟨S_, .f32⟩
  | 117 => ⟨S512x512, .i1⟩
  | 118 => ⟨S512x512, .f32⟩
  | 119 => ⟨S512x512, .f32⟩
  | 120 => ⟨S512x512, .f32⟩
  | 121 => ⟨S512x1, .i32⟩
  | 122 => ⟨S512, .i32⟩
  | 123 => ⟨S_, .i32⟩
  | 124 => ⟨S512, .i32⟩
  | 125 => ⟨S512, .i1⟩
  | 126 => ⟨S1x512x1024, .f32⟩
  | 127 => ⟨S512x1024, .f32⟩
  | _ => ⟨S512x512, .bf16⟩

abbrev hbmTy0_1 (i : Nat) : BufTy := match i % 128 with
  | 0 => ⟨S512x1024, .f32⟩
  | 1 => ⟨S_, .f32⟩
  | 2 => ⟨S512x1024, .f32⟩
  | 3 => ⟨S512x1024, .f32⟩
  | 4 => ⟨S512x1, .i1⟩
  | 5 => ⟨S1x1024x512, .f32⟩
  | 6 => ⟨S1024x512, .f32⟩
  | 7 => ⟨S512x512, .f32⟩
  | 8 => ⟨S512x1, .f32⟩
  | 9 => ⟨S512x512, .f32⟩
  | 10 => ⟨S512x512, .f32⟩
  | 11 => ⟨S_, .f32⟩
  | 12 => ⟨S_, .f32⟩
  | 13 => ⟨S512x512, .i1⟩
  | 14 => ⟨S512x512, .f32⟩
  | 15 => ⟨S512x512, .f32⟩
  | 16 => ⟨S512x512, .f32⟩
  | 17 => ⟨S512x1, .i32⟩
  | 18 => ⟨S512, .i32⟩
  | 19 => ⟨S_, .i32⟩
  | 20 => ⟨S512, .i32⟩
  | 21 => ⟨S512, .i1⟩
  | 22 => ⟨S1x512x1024, .f32⟩
  | 23 => ⟨S512x1024, .f32⟩
  | 24 => ⟨S512x1024, .f32⟩
  | 25 => ⟨S_, .f32⟩
  | 26 => ⟨S512x1024, .f32⟩
  | 27 => ⟨S512x1024, .f32⟩
  | 28 => ⟨S512x1, .i1⟩
  | 29 => ⟨S1x1024x512, .f32⟩
  | 30 => ⟨S1024x512, .f32⟩
  | 31 => ⟨S512x512, .f32⟩
  | 32 => ⟨S512x1, .f32⟩
  | 33 => ⟨S512x512, .f32⟩
  | 34 => ⟨S512x512, .f32⟩
  | 35 => ⟨S_, .f32⟩
  | 36 => ⟨S_, .f32⟩
  | 37 => ⟨S512x512, .i1⟩
  | 38 => ⟨S512x512, .f32⟩
  | 39 => ⟨S512x512, .f32⟩
  | 40 => ⟨S512x512, .f32⟩
  | 41 => ⟨S512x1, .i32⟩
  | 42 => ⟨S512, .i32⟩
  | 43 => ⟨S_, .i32⟩
  | 44 => ⟨S512, .i32⟩
  | 45 => ⟨S512, .i1⟩
  | 46 => ⟨S1x512x1024, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S512x1, .i1⟩
  | 53 => ⟨S1x1024x512, .f32⟩
  | 54 => ⟨S1024x512, .f32⟩
  | 55 => ⟨S512x512, .f32⟩
  | 56 => ⟨S512x1, .f32⟩
  | 57 => ⟨S512x512, .f32⟩
  | 58 => ⟨S512x512, .f32⟩
  | 59 => ⟨S_, .f32⟩
  | 60 => ⟨S_, .f32⟩
  | 61 => ⟨S512x512, .i1⟩
  | 62 => ⟨S512x512, .f32⟩
  | 63 => ⟨S512x512, .f32⟩
  | 64 => ⟨S512x512, .f32⟩
  | 65 => ⟨S512x1, .i32⟩
  | 66 => ⟨S512, .i32⟩
  | 67 => ⟨S_, .i32⟩
  | 68 => ⟨S512, .i32⟩
  | 69 => ⟨S512, .i1⟩
  | 70 => ⟨S1x512x1024, .f32⟩
  | 71 => ⟨S512x1024, .f32⟩
  | 72 => ⟨S512x1024, .f32⟩
  | 73 => ⟨S_, .f32⟩
  | 74 => ⟨S512x1024, .f32⟩
  | 75 => ⟨S512x1024, .f32⟩
  | 76 => ⟨S512x1, .i1⟩
  | 77 => ⟨S1x1024x512, .f32⟩
  | 78 => ⟨S1024x512, .f32⟩
  | 79 => ⟨S512x512, .f32⟩
  | 80 => ⟨S512x1, .f32⟩
  | 81 => ⟨S512x512, .f32⟩
  | 82 => ⟨S512x512, .f32⟩
  | 83 => ⟨S_, .f32⟩
  | 84 => ⟨S_, .f32⟩
  | 85 => ⟨S512x512, .i1⟩
  | 86 => ⟨S512x512, .f32⟩
  | 87 => ⟨S512x512, .f32⟩
  | 88 => ⟨S512x512, .f32⟩
  | 89 => ⟨S512x1, .i32⟩
  | 90 => ⟨S512, .i32⟩
  | 91 => ⟨S_, .i32⟩
  | 92 => ⟨S512, .i32⟩
  | 93 => ⟨S512, .i1⟩
  | 94 => ⟨S1x512x1024, .f32⟩
  | 95 => ⟨S512x1024, .f32⟩
  | 96 => ⟨S512x1024, .f32⟩
  | 97 => ⟨S_, .f32⟩
  | 98 => ⟨S512x1024, .f32⟩
  | 99 => ⟨S512x1024, .f32⟩
  | 100 => ⟨S512x1, .i1⟩
  | 101 => ⟨S1x1024x512, .f32⟩
  | 102 => ⟨S1024x512, .f32⟩
  | 103 => ⟨S512x512, .f32⟩
  | 104 => ⟨S512x1, .f32⟩
  | 105 => ⟨S512x512, .f32⟩
  | 106 => ⟨S512x512, .f32⟩
  | 107 => ⟨S_, .f32⟩
  | 108 => ⟨S_, .f32⟩
  | 109 => ⟨S512x512, .i1⟩
  | 110 => ⟨S512x512, .f32⟩
  | 111 => ⟨S512x512, .f32⟩
  | 112 => ⟨S512x512, .f32⟩
  | _ => ⟨S512x512, .bf16⟩

abbrev hbmTy (i : Nat) : BufTy := match i / 128 with
  | 0 => hbmTy0_0 i
  | 1 => hbmTy0_1 i
  | _ => ⟨S512x512, .bf16⟩

abbrev bufTy : (tb : Table) → Fin (tcTables nBuf tb) → BufTy
  | .hbm, ⟨i, _⟩ => hbmTy i
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1_0 : Ref sig .tc := ⟨.hbm, 11, rfl⟩
abbrev main_v6 : Ref sig .tc := ⟨.hbm, 12, rfl⟩
abbrev main_v7 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_2 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_4 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_5 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_6 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_7 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_8 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_9 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_c_10 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_11 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_12 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_c_13 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_14 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_15 : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_c_16 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_cst_17 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_18 : Ref sig .tc := ⟨.hbm, 187, rfl⟩
abbrev main_call7_v0 : Ref sig .tc := ⟨.hbm, 188, rfl⟩
abbrev main_call7_v1 : Ref sig .tc := ⟨.hbm, 189, rfl⟩
abbrev main_call7_v2 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_c_19 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_20 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_cst_21 : Ref sig .tc := ⟨.hbm, 211, rfl⟩
abbrev main_call8_v0 : Ref sig .tc := ⟨.hbm, 212, rfl⟩
abbrev main_call8_v1 : Ref sig .tc := ⟨.hbm, 213, rfl⟩
abbrev main_call8_v2 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_c_22 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_cst_23 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_24 : Ref sig .tc := ⟨.hbm, 235, rfl⟩
abbrev main_call9_v0 : Ref sig .tc := ⟨.hbm, 236, rfl⟩
abbrev main_call9_v1 : Ref sig .tc := ⟨.hbm, 237, rfl⟩
abbrev main_call9_v2 : Ref sig .tc := ⟨.hbm, 238, rfl⟩
abbrev main_v161 : Ref sig .tc := ⟨.hbm, 239, rfl⟩
abbrev main_v162 : Ref sig .tc := ⟨.hbm, 240, rfl⟩

abbrev nD : Nat := 1
abbrev τ : Topo := Topo.v7x

variable {F : FTy → Type} [FloatOps F]
-- ==== Proof.Cells.lean ====
/- The protocol of the kernel: the devices' pairing, the buffers and their slots, the cells, the schedule of
   what each cell hands over, the contents at each hand-over, what each device owes at launch, the levels. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## The pairing -/

set_option backward.proofsInPublic true in
/-- The device at the other coordinate of the last mesh axis. -/
def peer (c : Dev nD) : Dev nD := ⟨(4 * (c.val / 4) + 2 * ((c.val / 2) % 2) + 1) - c.val % 2, by have : c.val < 8 := c.isLt; show _ < 8; omega⟩

theorem peer_peer (c : Dev nD) : peer (peer c) = c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)

/-- The pairing as a permutation of the devices, its own inverse. -/
def swap : Dev nD ≃ Dev nD := ⟨peer, peer, peer_peer, peer_peer⟩

/-! ## The buffers, their slots -/

abbrev xM : Memref sig .tc .vmem S256x512 .bf16 := Memref.whole cc0_stg0_0
abbrev rM : Memref sig .tc .vmem S512x2 .bf16 := Memref.whole cc0_stg1_0
abbrev w1M : Memref sig .tc .vmem S2x512x1024 .bf16 := Memref.whole cc0_stg2_0
abbrev w2M : Memref sig .tc .vmem S2x1024x512 .bf16 := Memref.whole cc0_stg3_0
abbrev oM : Memref sig .tc .vmem S256x512 .f32 := Memref.whole cc0_stg4_0
abbrev xsM : Memref sig .tc .vmem S2x128x512 .bf16 := Memref.whole cc0_scratch0
abbrev xrM : Memref sig .tc .vmem S2x128x512 .bf16 := Memref.whole cc0_scratch1
abbrev rsM : Memref sig .tc .vmem S2x512 .bf16 := Memref.whole cc0_scratch2
abbrev rrM : Memref sig .tc .vmem S2x512 .bf16 := Memref.whole cc0_scratch3
abbrev ysM : Memref sig .tc .vmem S2x128x512 .bf16 := Memref.whole cc0_scratch4
abbrev yrM : Memref sig .tc .vmem S2x128x512 .bf16 := Memref.whole cc0_scratch5

/-- The two halves of a two-slot buffer. -/
abbrev rc0 : Rect S2x128x512 := Rect.unit (s := S2x128x512) ![0, 0, 0] S1x128x512.size inb_S2x128x512_S1x128x512_0_0_0
abbrev rc1 : Rect S2x128x512 := Rect.unit (s := S2x128x512) ![1, 0, 0] S1x128x512.size inb_S2x128x512_S1x128x512_1_0_0
/-- The two halves of the result. -/
abbrev ro0 : Rect S256x512 := Rect.unit (s := S256x512) ![0, 0] S128x512.size inb_S256x512_S128x512_0_0
abbrev ro1 : Rect S256x512 := Rect.unit (s := S256x512) ![128, 0] S128x512.size inb_S256x512_S128x512_128_0
/-- The two experts' weights. -/
abbrev ra0 : Rect S2x512x1024 := Rect.unit (s := S2x512x1024) ![0, 0, 0] S1x512x1024.size inb_S2x512x1024_S1x512x1024_0_0_0
abbrev ra1 : Rect S2x512x1024 := Rect.unit (s := S2x512x1024) ![1, 0, 0] S1x512x1024.size inb_S2x512x1024_S1x512x1024_1_0_0
abbrev rb0 : Rect S2x1024x512 := Rect.unit (s := S2x1024x512) ![0, 0, 0] S1x1024x512.size inb_S2x1024x512_S1x1024x512_0_0_0
abbrev rb1 : Rect S2x1024x512 := Rect.unit (s := S2x1024x512) ![1, 0, 0] S1x1024x512.size inb_S2x1024x512_S1x1024x512_1_0_0

abbrev sl0 (M : Memref sig .tc .vmem S2x128x512 .bf16) : Memref sig .tc .vmem S128x512 .bf16 :=
  (M.slice rc0 (fun _ => rfl)).squeeze S128x512 squeezes_S1x128x512_S128x512
abbrev sl1 (M : Memref sig .tc .vmem S2x128x512 .bf16) : Memref sig .tc .vmem S128x512 .bf16 :=
  (M.slice rc1 (fun _ => rfl)).squeeze S128x512 squeezes_S1x128x512_S128x512

/-- A memref's own elements on device `c`, held whole at contents `f`. -/
def pts {s : Shape} {e : EltTy} (M : Memref sig .tc .vmem s e) (c : Dev nD) (f : Buf (Elt F) (M.view.loc (c : Thread nD τ))) : sProp 𝕄 :=
  M.view.loc (c : Thread nD τ) ↦[M.view.set]{fullShare} f

omit [FloatOps F] in
instance pts_storable {s : Shape} {e : EltTy} (M : Memref sig .tc .vmem s e) (c : Dev nD) (f) :
    BI.Storable (upEmb : UEmb _ 𝕄) (pts (F := F) M c f) := by unfold pts; infer_instance

omit [FloatOps F] in
/-- A whole buffer's elements are all of it. -/
theorem pts_whole (b : Ref sig .tc) {sp} (h : b.space = sp) (c : Dev nD) (f : Buf (Elt F) ((c : Thread nD τ).loc b)) :
    ((Memref.whole b).view.loc (c : Thread nD τ) ↦[(Memref.whole b).view.set]{fullShare} f : sProp 𝕄)
      = (((c : Thread nD τ).loc b) ↦{fullShare} f : sProp 𝕄) := by
  simp only [Memref.view_whole, View.set_whole]

/-! ## The cells -/

/-- The runtime's barrier counter. -/
abbrev barS : Sem sig := (SemArray.scalar (sig.barrier 0 rfl) : Sems sig S_).sem
/-- The counters of the five transfers out, and of the five in: the router, the two input slots, the two result slots. -/
abbrev sS : Fin 5 → DmaSem sig := fun
  | 0 => ((cc0_scratch6.slice (Rect.unit (s := S5) ![0] S1.size inb_S5_S1_0)).squeeze S_ squeezes_S1_S_).sem
  | 1 => ((cc0_scratch6.slice (Rect.unit (s := S5) ![1] S1.size inb_S5_S1_1)).squeeze S_ squeezes_S1_S_).sem
  | 2 => ((cc0_scratch6.slice (Rect.unit (s := S5) ![2] S1.size inb_S5_S1_2)).squeeze S_ squeezes_S1_S_).sem
  | 3 => ((cc0_scratch6.slice (Rect.unit (s := S5) ![3] S1.size inb_S5_S1_3)).squeeze S_ squeezes_S1_S_).sem
  | 4 => ((cc0_scratch6.slice (Rect.unit (s := S5) ![4] S1.size inb_S5_S1_4)).squeeze S_ squeezes_S1_S_).sem
abbrev sR : Fin 5 → DmaSem sig := fun
  | 0 => ((cc0_scratch7.slice (Rect.unit (s := S5) ![0] S1.size inb_S5_S1_0)).squeeze S_ squeezes_S1_S_).sem
  | 1 => ((cc0_scratch7.slice (Rect.unit (s := S5) ![1] S1.size inb_S5_S1_1)).squeeze S_ squeezes_S1_S_).sem
  | 2 => ((cc0_scratch7.slice (Rect.unit (s := S5) ![2] S1.size inb_S5_S1_2)).squeeze S_ squeezes_S1_S_).sem
  | 3 => ((cc0_scratch7.slice (Rect.unit (s := S5) ![3] S1.size inb_S5_S1_3)).squeeze S_ squeezes_S1_S_).sem
  | 4 => ((cc0_scratch7.slice (Rect.unit (s := S5) ![4] S1.size inb_S5_S1_4)).squeeze S_ squeezes_S1_S_).sem

/-- The eleven counters the protocol uses: the barrier, five out, five in. -/
abbrev csem : Fin 11 → SemLoc sig := fun
  | 0 => .reg barS
  | 1 => .dma (sS 0) | 2 => .dma (sS 1) | 3 => .dma (sS 2) | 4 => .dma (sS 3) | 5 => .dma (sS 4)
  | 6 => .dma (sR 0) | 7 => .dma (sR 1) | 8 => .dma (sR 2) | 9 => .dma (sR 3) | 10 => .dma (sR 4)
/-- The ten of them that are the kernel's own. -/
abbrev osem : Fin 10 → SemLoc sig := fun
  | 0 => .dma (sS 0) | 1 => .dma (sS 1) | 2 => .dma (sS 2) | 3 => .dma (sS 3) | 4 => .dma (sS 4)
  | 5 => .dma (sR 0) | 6 => .dma (sR 1) | 7 => .dma (sR 2) | 8 => .dma (sR 3) | 9 => .dma (sR 4)

theorem csem_injective : Function.Injective csem := by decide

/-- Which of the eleven a counter is, if any. -/
def kidx (s : SemLoc sig) : Option (Fin 11) := (List.finRange 11).find? fun k => csem k = s

theorem kidx_csem : ∀ k, kidx (csem k) = some k := by decide
theorem kidx_some {s : SemLoc sig} {k : Fin 11} (h : kidx s = some k) : csem k = s := by
  have := List.find?_some h; simpa using this

abbrev kcell (ck : Dev nD × Fin 11) : GSem nD τ sig := ((ck.1 : Thread nD τ), csem ck.2)

theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem kcell_eq_iff {c c' : Dev nD} {k k' : Fin 11} : kcell (c, k) = kcell (c', k') ↔ c = c' ∧ k = k' :=
  ⟨fun h => Prod.ext_iff.mp (kcell_injective h), fun h => by rw [h.1, h.2]⟩

/-- What the router's transfer counts, what a slot's does. -/
abbrev NR : ℕ := (rrM : Memref sig .tc .vmem S2x512 .bf16).view.dmaCredit
abbrev NX : ℕ := (sl0 xrM : Memref sig .tc .vmem S128x512 .bf16).view.dmaCredit
theorem NR_pos : 0 < NR := View.dmaCredit_pos _ (by decide)
theorem NX_pos : 0 < NX := View.dmaCredit_pos _ (by decide)

/-- The amount each of the eleven awaits. -/
def amt (k : Fin 11) : ℕ := if k = 0 then 1 else if k = 1 ∨ k = 6 then NR else NX
theorem amt_pos (k : Fin 11) : 0 < amt k := by
  unfold amt; split
  · exact Nat.one_pos
  · split
    · exact NR_pos
    · exact NX_pos
theorem amt_0 : amt 0 = 1 := rfl
theorem amt_1 : amt 1 = NR := by unfold amt; rw [if_neg (by decide), if_pos (by decide)]
theorem amt_6 : amt 6 = NR := by unfold amt; rw [if_neg (by decide), if_pos (by decide)]
theorem amt_of (k : Fin 11) (h : k ≠ 0 ∧ k ≠ 1 ∧ k ≠ 6 := by decide) : amt k = NX := by
  unfold amt; rw [if_neg h.1, if_neg (by rintro (h' | h'); exacts [h.2.1 h', h.2.2 h'])]

/-! ## Contents -/

abbrev B2 (F : FTy → Type) := Vec F S2x128x512 .bf16
abbrev BR (F : FTy → Type) := Vec F S2x512 .bf16

/-- Device `c`'s staged operands. -/
def xstg (c : Dev nD) : Vec F S256x512 .bf16 := (win0_0.blk (0 : Fin 1)).view.read (Elt F) ((s₀ m ρ).mem ((c : Thread nD τ).loc main_arg0))
def rstg (c : Dev nD) : Vec F S512x2 .bf16 := (win0_1.blk (0 : Fin 1)).view.read (Elt F) ((s₀ m ρ).mem ((c : Thread nD τ).loc main_arg1))
def w1stg (c : Dev nD) : Vec F S2x512x1024 .bf16 := (win0_2.blk (0 : Fin 1)).view.read (Elt F) ((s₀ m ρ).mem ((c : Thread nD τ).loc main_arg2))
def w2stg (c : Dev nD) : Vec F S2x1024x512 .bf16 := (win0_3.blk (0 : Fin 1)).view.read (Elt F) ((s₀ m ρ).mem ((c : Thread nD τ).loc main_arg3))

/-- What device `c` sends of its router and of its rows. -/
def xs (c : Dev nD) : B2 F := k0_pay3 (xstg m ρ c)
def rs (c : Dev nD) : BR F := k0_pay2 (rstg m ρ c)

/-- The printed bit: whether the device's last mesh coordinate is zero. -/
def zbit (c : Dev nD) : BitVec 1 := Scalar.cmpi .eq (Scalar.remsi (Scalar.divsi (Dev.word c) 1#32) 2#32) 0#32

/-- The first half-result computed for the peer, as a function of what the body reads. -/
def partA (v10 : BitVec 1) (v68 v70 : Vec F S1x512x1024 .bf16) (v72 v74 : Vec F S1x1024x512 .bf16) (v104 : Vec F S1x128x512 .bf16) (v106 v108 : BR F) :
    Vec F S1x128x512 .bf16 :=
  have v112 := k0_pay11 v10 v104 v106 v108
  have v115 := k0_pay12 v10 v104 v106 v108
  have v118 := k0_pay13 v10 v104 v106 v108
  have v121 := k0_pay14 v10 v104 v106 v108
  have v122 := k0_pay15 v10 v104 v106 v108
  have v124 := k0_pay16 v118 v121 v122
  k0_pay24 v10 (k0_pay4 v68) (k0_pay5 v70) (k0_pay6 v72) (k0_pay7 v74) (k0_pay8 v104) v121 v124
    (k0_pay17 v112 v115 v118 v121 v122) (k0_pay20 (k0_pay18 v112 v115 v118 v121) (k0_pay19 v115 v118 v121 v122))
    (k0_pay21 v112 v115 v118 v121 v124) (k0_pay22 v112 v115 v118 v121) k0_pay23

/-- The second half-result computed for the peer. -/
def partB (v10 : BitVec 1) (v68 v70 : Vec F S1x512x1024 .bf16) (v72 v74 : Vec F S1x1024x512 .bf16) (v273 : Vec F S1x128x512 .bf16) (v275 v277 : BR F) :
    Vec F S1x128x512 .bf16 :=
  have v274 := k0_pay25 v273
  have v281 := k0_pay28 v10 v274 v275 v277
  have v284 := k0_pay29 v10 v274 v275 v277
  have v287 := k0_pay30 v10 v274 v275 v277
  have v290 := k0_pay31 v10 v274 v275 v277
  have v293 := k0_pay32 v10 v274 v275 v277
  k0_pay40 (k0_pay39 v10 (k0_pay4 v68) (k0_pay5 v70) (k0_pay6 v72) (k0_pay7 v74) v274 v284 v287 v290 v293
    (k0_pay33 v10 v274 v275 v277) (k0_pay35 v284 v287 v290 v293 (k0_pay34 v10 v274 v275 v277))
    (k0_pay36 v281 v284 v287 v290 v293) (k0_pay37 v281 v290) 0#32 k0_pay38)

/-- The device's own half of its result. -/
def partC (v10 : BitVec 1) (v68 v70 : Vec F S1x512x1024 .bf16) (v72 v74 : Vec F S1x1024x512 .bf16) (v424 : B2 F) (v426 v428 : BR F) :
    FVec F S256x512 .f32 :=
  have v432 := k0_pay44 v10 v424 v426 v428
  have v435 := k0_pay45 v10 v424 v426 v428
  have v438 := k0_pay46 v10 v424 v426 v428
  have v441 := k0_pay47 v10 v424 v426 v428
  have v444 := k0_pay48 v432 v435 v438 v441
  k0_pay54 v10 (k0_pay4 v68) (k0_pay5 v70) (k0_pay6 v72) (k0_pay7 v74) (k0_pay41 v424) v441 v444
    (k0_pay49 v432 v435 v438 v441) (k0_pay51 v435 v444 (k0_pay50 v432 v435 v438 v441))
    (k0_pay52 v432 v435 v438 v441 v444) (k0_pay53 v432 v435 v438 v441) 2#32

/-- What the body reads of the weights. -/
def w1a (c : Dev nD) : Vec F S1x512x1024 .bf16 := w1M.view.readAt (Elt F) ra0.toLoadRect (w1stg m ρ c)
def w1b (c : Dev nD) : Vec F S1x512x1024 .bf16 := w1M.view.readAt (Elt F) ra1.toLoadRect (w1stg m ρ c)
def w2a (c : Dev nD) : Vec F S1x1024x512 .bf16 := w2M.view.readAt (Elt F) rb0.toLoadRect (w2stg m ρ c)
def w2b (c : Dev nD) : Vec F S1x1024x512 .bf16 := w2M.view.readAt (Elt F) rb1.toLoadRect (w2stg m ρ c)

/-- The two half-results device `c` sends. -/
def ya (c : Dev nD) : Vec F S1x128x512 .bf16 :=
  partA (zbit c) (w1a m ρ c) (w1b m ρ c) (w2a m ρ c) (w2b m ρ c) (xrM.view.readAt (Elt F) rc0.toLoadRect (xs m ρ (peer c))) (rs m ρ c) (rs m ρ (peer c))
def yb (c : Dev nD) : Vec F S1x128x512 .bf16 :=
  partB (zbit c) (w1a m ρ c) (w1b m ρ c) (w2a m ρ c) (w2b m ρ c) (xrM.view.readAt (Elt F) rc1.toLoadRect (xs m ρ (peer c))) (rs m ρ c) (rs m ρ (peer c))
/-- The sent buffer: both of them. -/
def ys (c : Dev nD) : B2 F :=
  (ysM.access rc1 : View sig .tc _ _ _).write (Elt F) ((ysM.access rc0 : View sig .tc _ _ _).write (Elt F) (xs m ρ c) (ya m ρ c) Finset.univ) (yb m ρ c) Finset.univ

/-- The device's own half, and the result: own half plus what the peer sent, half by half. -/
def acc (c : Dev nD) : FVec F S256x512 .f32 :=
  partC (zbit c) (w1a m ρ c) (w1b m ρ c) (w2a m ρ c) (w2b m ρ c) (xs m ρ c) (rs m ρ c) (rs m ρ (peer c))
def outAt (c : Dev nD) : Vec F S256x512 .f32 :=
  (oM.access ro1 : View sig .tc _ _ _).write (Elt F)
    ((oM.access ro0 : View sig .tc _ _ _).write (Elt F) (acc m ρ c) (k0_pay55 (acc m ρ c) (yrM.view.readAt (Elt F) rc0.toLoadRect (ys m ρ (peer c)))) Finset.univ)
    (k0_pay1 (acc m ρ c) (yrM.view.readAt (Elt F) rc1.toLoadRect (ys m ρ (peer c)))) Finset.univ

/-! ## Slots -/

theorem rc_disjoint : Disjoint (rc0.set) (rc1.set) := by
  rw [Finset.disjoint_left]
  intro i h0 h1
  have a := (Rect.mem_set_unit.mp h0 0).2
  have b := (Rect.mem_set_unit.mp h1 0).1
  simp at a b
  omega

theorem rc_union : rc0.set ∪ rc1.set = Finset.univ := by
  ext i
  simp only [Finset.mem_union, Finset.mem_univ, iff_true]
  have hi : (i 0).val < 2 := (i 0).isLt
  have h1 : (i 1).val < 128 := (i 1).isLt
  have h2 : (i 2).val < 512 := (i 2).isLt
  rcases Nat.lt_or_ge (i 0).val 1 with h | h
  · left
    refine Rect.mem_set_unit.mpr fun a => ?_
    fin_cases a
    · exact ⟨Nat.zero_le _, by show (i 0).val < 0 + 1; omega⟩
    · exact ⟨Nat.zero_le _, by show (i 1).val < 0 + 128; omega⟩
    · exact ⟨Nat.zero_le _, by show (i 2).val < 0 + 512; omega⟩
  · right
    refine Rect.mem_set_unit.mpr fun a => ?_
    fin_cases a
    · exact ⟨h, by show (i 0).val < 1 + 1; omega⟩
    · exact ⟨Nat.zero_le _, by show (i 1).val < 0 + 128; omega⟩
    · exact ⟨Nat.zero_le _, by show (i 2).val < 0 + 512; omega⟩

section Slots
variable (M : Memref sig .tc .vmem S2x128x512 .bf16) (c : Dev nD)

omit [FloatOps F] in
theorem set_sl0 : (sl0 M).view.set = M.view.setOn rc0.set := by
  rw [Memref.set_view_squeeze]; exact View.set_slice _ _
omit [FloatOps F] in
theorem set_sl1 : (sl1 M).view.set = M.view.setOn rc1.set := by
  rw [Memref.set_view_squeeze]; exact View.set_slice _ _

omit [FloatOps F] in
/-- A two-slot buffer is its two slots. -/
theorem pts_slots (f : Buf (Elt F) (M.view.loc (c : Thread nD τ))) :
    (pts M c f : sProp 𝕄) ⊣⊢ iprop(pts (sl0 M) c f ∗ pts (sl1 M) c f) := by
  unfold pts
  rw [set_sl0, set_sl1]
  have hu : M.view.set = M.view.setOn rc0.set ∪ M.view.setOn rc1.set := by
    rw [← View.setOn_univ, ← rc_union]; exact Finset.map_union _ _
  have hd : Disjoint (M.view.setOn rc0.set) (M.view.setOn rc1.set) := (Finset.disjoint_map _).mpr rc_disjoint
  rw [hu]
  exact pointsTo_union hd

omit [FloatOps F] in
/-- Slots at different contents are the buffer at some contents. -/
theorem pts_join (f g : Buf (Elt F) (M.view.loc (c : Thread nD τ))) :
    iprop(pts (sl0 M) c f ∗ pts (sl1 M) c g) ⊢ (iprop(∃ h, pts M c h) : sProp 𝕄) := by
  unfold pts
  rw [set_sl0, set_sl1]
  have hu : M.view.set = M.view.setOn rc0.set ∪ M.view.setOn rc1.set := by
    rw [← View.setOn_univ, ← rc_union]; exact Finset.map_union _ _
  have hd : Disjoint (M.view.setOn rc0.set) (M.view.setOn rc1.set) := (Finset.disjoint_map _).mpr rc_disjoint
  rw [hu]
  iintro H
  iexists _
  iapply (pointsTo_join hd)
  iexact H

omit [FloatOps F] in
theorem pts_congr0 {f g : Buf (Elt F) (M.view.loc (c : Thread nD τ))} (h : ∀ x ∈ rc0.set, f (M.view.emb x) = g (M.view.emb x)) :
    (pts (sl0 M) c f : sProp 𝕄) = pts (sl0 M) c g := by
  unfold pts
  rw [set_sl0]
  refine pointsTo_congr fun i hi => ?_
  obtain ⟨x, hx, rfl⟩ := Finset.mem_map.mp hi
  exact h x hx
omit [FloatOps F] in
theorem pts_congr1 {f g : Buf (Elt F) (M.view.loc (c : Thread nD τ))} (h : ∀ x ∈ rc1.set, f (M.view.emb x) = g (M.view.emb x)) :
    (pts (sl1 M) c f : sProp 𝕄) = pts (sl1 M) c g := by
  unfold pts
  rw [set_sl1]
  refine pointsTo_congr fun i hi => ?_
  obtain ⟨x, hx, rfl⟩ := Finset.mem_map.mp hi
  exact h x hx
end Slots

omit [FloatOps F] in
/-- A view written whole holds, on its own elements, contents the written values are read from. -/
theorem write_read_congr {s : Shape} {e : EltTy} (M : Memref sig .tc .vmem s e) (c : Dev nD) (f g : Buf (Elt F) (M.view.loc (c : Thread nD τ))) :
    (pts M c (M.view.write (Elt F) f (M.view.read (Elt F) g) Finset.univ) : sProp 𝕄) = pts M c g := by
  unfold pts
  refine pointsTo_congr fun i hi => ?_
  obtain ⟨x, -, rfl⟩ := Finset.mem_map.mp hi
  rw [View.write_emb_of_mem _ _ (Finset.mem_univ x)]
  simp [View.read]

/-! ## What arrives -/

omit [FloatOps F] in
theorem landed_r (c : Dev nD) (fd : Buf (Elt F) ((rrM : Memref sig .tc .vmem S2x512 .bf16).view.loc (c : Thread nD τ))) (fs : BR F) :
    (pts rrM c (rrM.view.write (Elt F) fd (rsM.view.read (Elt F) fs) Finset.univ) : sProp 𝕄) = pts rrM c fs :=
  write_read_congr rrM c fd fs
omit [FloatOps F] in
theorem landed_x0 (c : Dev nD) (fd : Buf (Elt F) ((sl0 xrM : Memref sig .tc .vmem S128x512 .bf16).view.loc (c : Thread nD τ))) (fs : B2 F) :
    (pts (sl0 xrM) c ((sl0 xrM).view.write (Elt F) fd ((sl0 xsM).view.read (Elt F) fs) Finset.univ) : sProp 𝕄) = pts (sl0 xrM) c fs :=
  write_read_congr (sl0 xrM) c fd fs
omit [FloatOps F] in
theorem landed_x1 (c : Dev nD) (fd : Buf (Elt F) ((sl1 xrM : Memref sig .tc .vmem S128x512 .bf16).view.loc (c : Thread nD τ))) (fs : B2 F) :
    (pts (sl1 xrM) c ((sl1 xrM).view.write (Elt F) fd ((sl1 xsM).view.read (Elt F) fs) Finset.univ) : sProp 𝕄) = pts (sl1 xrM) c fs :=
  write_read_congr (sl1 xrM) c fd fs
omit [FloatOps F] in
theorem landed_y0 (c : Dev nD) (fd : Buf (Elt F) ((sl0 yrM : Memref sig .tc .vmem S128x512 .bf16).view.loc (c : Thread nD τ))) (fs : B2 F) :
    (pts (sl0 yrM) c ((sl0 yrM).view.write (Elt F) fd ((sl0 ysM).view.read (Elt F) fs) Finset.univ) : sProp 𝕄) = pts (sl0 yrM) c fs :=
  write_read_congr (sl0 yrM) c fd fs
omit [FloatOps F] in
theorem landed_y1 (c : Dev nD) (fd : Buf (Elt F) ((sl1 yrM : Memref sig .tc .vmem S128x512 .bf16).view.loc (c : Thread nD τ))) (fs : B2 F) :
    (pts (sl1 yrM) c ((sl1 yrM).view.write (Elt F) fd ((sl1 ysM).view.read (Elt F) fs) Finset.univ) : sProp 𝕄) = pts (sl1 yrM) c fs :=
  write_read_congr (sl1 yrM) c fd fs

/-- The send buffer's first slot once the first half-result is stored. -/
theorem stored_y0 (c : Dev nD) (f : B2 F) :
    (pts (sl0 ysM) c ((ysM.access rc0 : View sig .tc _ _ _).write (Elt F) f (ya m ρ c) Finset.univ) : sProp 𝕄) = pts (sl0 ysM) c (ys m ρ c) := by
  refine pts_congr0 ysM c fun x hx => ?_
  unfold ys
  have hn : ysM.view.emb x ∉ (ysM.access rc1 : View sig .tc _ _ _).setOn Finset.univ := by
    rw [View.setOn_univ]
    show _ ∉ ((View.whole cc0_scratch4).slice rc1).set
    rw [View.set_slice_whole]
    exact Finset.disjoint_left.mp rc_disjoint hx
  rw [View.write_of_not_mem _ _ _ hn]
  obtain ⟨y, rfl⟩ : ∃ y, (ysM.access rc0 : View sig .tc _ _ _).emb y = x := by
    obtain ⟨y, -, h⟩ := Finset.mem_map.mp (by rw [← Rect.map_emb_univ] at hx; exact hx); exact ⟨y, h⟩
  exact (View.write_emb_of_mem _ _ (Finset.mem_univ y)).trans (View.write_emb_of_mem _ _ (Finset.mem_univ y)).symm

/-- The second slot once the second is. -/
theorem stored_y1 (c : Dev nD) (f : B2 F) :
    (pts (sl1 ysM) c ((ysM.access rc1 : View sig .tc _ _ _).write (Elt F) f (yb m ρ c) Finset.univ) : sProp 𝕄) = pts (sl1 ysM) c (ys m ρ c) := by
  refine pts_congr1 ysM c fun x hx => ?_
  unfold ys
  obtain ⟨y, rfl⟩ : ∃ y, (ysM.access rc1 : View sig .tc _ _ _).emb y = x := by
    obtain ⟨y, -, h⟩ := Finset.mem_map.mp (by rw [← Rect.map_emb_univ] at hx; exact hx); exact ⟨y, h⟩
  exact (View.write_emb_of_mem _ _ (Finset.mem_univ y)).trans (View.write_emb_of_mem _ _ (Finset.mem_univ y)).symm

/-- The result once both its halves are stored, whatever it held. -/
theorem out_written (c : Dev nD) (f : Vec F S256x512 .f32) (p0 p1 : Vec F S128x512 .f32) (g : Vec F S256x512 .f32) :
    (oM.access ro1 : View sig .tc _ _ _).write (Elt F) ((oM.access ro0 : View sig .tc _ _ _).write (Elt F) f p0 Finset.univ) p1 Finset.univ
      = (oM.access ro1 : View sig .tc _ _ _).write (Elt F) ((oM.access ro0 : View sig .tc _ _ _).write (Elt F) g p0 Finset.univ) p1 Finset.univ := by
  funext i
  by_cases h1 : i ∈ ro1.set
  · obtain ⟨y, rfl⟩ : ∃ y, (oM.access ro1 : View sig .tc _ _ _).emb y = i := by
      obtain ⟨y, -, h⟩ := Finset.mem_map.mp (by rw [← Rect.map_emb_univ] at h1; exact h1); exact ⟨y, h⟩
    exact (View.write_emb_of_mem _ _ (Finset.mem_univ y)).trans (View.write_emb_of_mem _ _ (Finset.mem_univ y)).symm
  · have hn : i ∉ (oM.access ro1 : View sig .tc _ _ _).setOn Finset.univ := by
      rw [View.setOn_univ]
      show _ ∉ ((View.whole cc0_stg4_0).slice ro1).set
      rw [View.set_slice_whole]; exact h1
    rw [View.write_of_not_mem _ _ _ hn, View.write_of_not_mem _ _ _ hn]
    have h0 : i ∈ ro0.set := by
      have hi0 : (i 0).val < 256 := (i 0).isLt
      have hi1 : (i 1).val < 512 := (i 1).isLt
      have : (i 0).val < 128 := by
        by_contra hge
        refine h1 (Rect.mem_set_unit.mpr fun a => ?_)
        fin_cases a
        · exact ⟨by show 128 ≤ (i 0).val; omega, by show (i 0).val < 128 + 128; omega⟩
        · exact ⟨Nat.zero_le _, by show (i 1).val < 0 + 512; omega⟩
      refine Rect.mem_set_unit.mpr fun a => ?_
      fin_cases a
      · exact ⟨Nat.zero_le _, by show (i 0).val < 0 + 128; omega⟩
      · exact ⟨Nat.zero_le _, by show (i 1).val < 0 + 512; omega⟩
    obtain ⟨y, rfl⟩ : ∃ y, (oM.access ro0 : View sig .tc _ _ _).emb y = i := by
      obtain ⟨y, -, h⟩ := Finset.mem_map.mp (by rw [← Rect.map_emb_univ] at h0; exact h0); exact ⟨y, h⟩
    exact (View.write_emb_of_mem _ _ (Finset.mem_univ y)).trans (View.write_emb_of_mem _ _ (Finset.mem_univ y)).symm

/-! ## The schedule -/

/-- What each of the eleven counters of device `c` hands over when its amount has come: the barrier, the peer's four
    landing places; a transfer out, what was sent; a transfer in, what has landed. -/
def payOf (k : Fin 11) (c : Dev nD) : sProp 𝕄 := match k with
  | 0 => iprop((∃ f, pts rrM (peer c) f) ∗ (∃ f, pts (sl0 xrM) (peer c) f) ∗ (∃ f, pts (sl1 xrM) (peer c) f)
      ∗ (∃ f, pts (sl0 yrM) (peer c) f) ∗ ∃ f, pts (sl1 yrM) (peer c) f)
  | 1 => pts rsM c (rs m ρ c)
  | 2 => pts (sl0 xsM) c (xs m ρ c)
  | 3 => pts (sl1 xsM) c (xs m ρ c)
  | 4 => pts (sl0 ysM) c (ys m ρ c)
  | 5 => pts (sl1 ysM) c (ys m ρ c)
  | 6 => pts rrM c (rs m ρ (peer c))
  | 7 => pts (sl0 xrM) c (xs m ρ (peer c))
  | 8 => pts (sl1 xrM) c (xs m ρ (peer c))
  | 9 => pts (sl0 yrM) c (ys m ρ (peer c))
  | 10 => pts (sl1 yrM) c (ys m ρ (peer c))

instance payOf_storable (k : Fin 11) (c : Dev nD) : BI.Storable (upEmb : UEmb _ 𝕄) (payOf (F := F) m ρ k c) := by
  fin_cases k <;> (dsimp only [payOf]; infer_instance)

/-- One round, round 0, of one duty at each of a device's eleven counters. -/
def Rd : Rounds.Schedule (GSem nD τ sig) Unit 𝕄 where
  duties g r := if r = 0 ∧ g.1.2 = .tc ∧ (kidx g.2).isSome then {()} else ∅
  unitless _ := False
  amount g _ _ := match kidx g.2 with
    | some k => amt k
    | none => 1
  payload g _ _ := match kidx g.2 with
    | some k => payOf m ρ k g.1.1
    | none => iprop(emp)
  amount_pos g _ _ _ := by
    split
    · exact amt_pos _
    · exact Nat.one_pos

instance Rd_payload_storable (g : GSem nD τ sig) (r : ℕ) (d : Unit) : BI.Storable (upEmb : UEmb _ 𝕄) ((Rd (F := F) m ρ).payload g r d) := by
  dsimp only [Rd]
  split <;> infer_instance

section Sched
variable (c : Dev nD) (k : Fin 11)

theorem duties_cell : (Rd (F := F) m ρ).duties (kcell (c, k)) 0 = {()} := by
  dsimp only [Rd]; rw [kidx_csem]; exact if_pos ⟨rfl, rfl, rfl⟩
theorem mem_duties : () ∈ (Rd (F := F) m ρ).duties (kcell (c, k)) 0 := by rw [duties_cell]; exact Finset.mem_singleton_self _
theorem duties_later (g : GSem nD τ sig) : ∀ r, 1 ≤ r → (Rd (F := F) m ρ).duties g r = ∅ :=
  fun r hr => by dsimp only [Rd]; rw [if_neg fun h => by omega]
theorem amount_cell (d : Unit) : (Rd (F := F) m ρ).amount (kcell (c, k)) 0 d = amt k := by
  dsimp only [Rd]; rw [kidx_csem]
theorem expect_cell : (Rd (F := F) m ρ).expect (kcell (c, k)) 0 = amt k := by
  unfold Schedule.expect Schedule.amountOf; rw [duties_cell, Finset.sum_singleton, amount_cell]
theorem payload_cell (d : Unit) : (Rd (F := F) m ρ).payload (kcell (c, k)) 0 d = payOf m ρ k c := by
  dsimp only [Rd]; rw [kidx_csem]
theorem rest_cell : bigSep ((Rd (F := F) m ρ).duties (kcell (c, k)) 0 \ ∅) (fun d => (Rd (F := F) m ρ).payload (kcell (c, k)) 0 d) = payOf m ρ k c := by
  rw [Finset.sdiff_empty, duties_cell, bigSep_singleton, payload_cell]
end Sched

/-! ## What each device owes at launch; the levels -/

/-- The credit of the peer's `k`-th counter. -/
abbrev due (c : Dev nD) (k : Fin 11) : CellTallies nD τ sig Unit := tallyAt (kcell (peer c, k)) () (amt k)

def O₄ (c : Dev nD) : CellTallies nD τ sig Unit := due c 10
def O₃ (c : Dev nD) : CellTallies nD τ sig Unit := O₄ c + due c 9
def O₂ (c : Dev nD) : CellTallies nD τ sig Unit := O₃ c + due c 8
def O₁ (c : Dev nD) : CellTallies nD τ sig Unit := O₂ c + due c 7
def Oₓ (c : Dev nD) : CellTallies nD τ sig Unit := O₁ c + due c 6
def O₀ (c : Dev nD) : CellTallies nD τ sig Unit := Oₓ c + due c 0

def L (g : GSem nD τ sig) : Finset Unit := if g.1.2 = .tc then {()} else ∅
/-- The barrier at 1; the router's and the inputs' arrivals at 2; the results' arrivals at 3; all else at 0. -/
def lvK (k : Fin 11) : ℕ := if k = 0 then 1 else if k.val < 6 then 0 else if k.val < 9 then 2 else 3
def lv (g : GSem nD τ sig) (_ : Unit) : ℕ := match kidx g.2 with
  | some k => lvK k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 11) (u : Unit) : lv (kcell (c, k)) u = lvK k := by unfold lv; rw [kidx_csem]

/-- Everything owed is owed to listed cells above level `n`. -/
def Above (n : ℕ) (O : CellTallies nD τ sig Unit) : Prop := ∀ g u, 0 < O g u → u ∈ L g ∧ n < lv g u

theorem Above.zero (n : ℕ) : Above n 0 := fun g u h => absurd h (Nat.lt_irrefl 0)
theorem Above.add {n : ℕ} {A B : CellTallies nD τ sig Unit} (hA : Above n A) (hB : Above n B) : Above n (A + B) := fun g u h => by
  rw [Pi.add_apply, Finsupp.add_apply] at h
  rcases Nat.pos_of_ne_zero (n := A g u) |> fun _ => Nat.eq_zero_or_pos (A g u) with h0 | h0
  · rw [h0, Nat.zero_add] at h; exact hB g u h
  · exact hA g u h0
theorem Above.due {n : ℕ} (c : Dev nD) (k : Fin 11) (h : n < lvK k) : Above n (due c k) := fun g u hg => by
  rw [tallyAt_apply] at hg
  by_cases h' : g = kcell (peer c, k) ∧ u = ()
  · rw [h'.1, L_tc]; exact ⟨Finset.mem_singleton_self _, by rw [lv_cell]; exact h⟩
  · rw [if_neg h'] at hg; exact absurd hg (Nat.lt_irrefl 0)

theorem above_O₄ (c : Dev nD) : Above 2 (O₄ c) := .due c 10 (by decide)
theorem above_O₃ (c : Dev nD) : Above 2 (O₃ c) := (above_O₄ c).add (.due c 9 (by decide))
theorem Above.mono {n n' : ℕ} (h : n' ≤ n) {O : CellTallies nD τ sig Unit} (H : Above n O) : Above n' O :=
  fun g u hg => ⟨(H g u hg).1, Nat.lt_of_le_of_lt h (H g u hg).2⟩
theorem above_Oₓ (c : Dev nD) : Above 1 (Oₓ c) :=
  ((((above_O₃ c).mono (by decide)).add (.due c 8 (by decide))).add (.due c 7 (by decide))).add (.due c 6 (by decide))
theorem above_O₀ (c : Dev nD) : Above 0 (O₀ c) := ((above_Oₓ c).mono (by decide)).add (.due c 0 (by decide))

omit [FloatOps F] in
/-- A device may wait at a counter whose level everything it owes lies above. -/
theorem mayWait_above (c : Dev nD) (sm : SemLoc sig) (n : ℕ) (hn : lv ((c : Thread nD τ), sm) () ≤ n) (O : CellTallies nD τ sig Unit) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1) (fun p hp => by rw [Finset.mem_singleton.mp hp]; exact hn) (fun g u hg => (h g u hg).2)

end Cert.MoeRun

end
-- ==== Proof.Steps.lean ====
/- The protocol's steps: what a device starts and ends with, and the rules its effects run by, stated over the
   eleven counters of `Cells`. -/
module

public import proofs.«01_k».proof.Proof.Cells

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device starts with -/

/-- Every counter's invariant, under the names `K`, and that every counter's round 0 is reached. -/
def records (K : Dev nD × Fin 11 → ℕ) : sProp 𝕄 :=
  iprop((bigSep Finset.univ fun ck : Dev nD × Fin 11 => cellInv ER (Rd m ρ) (K ck) (kcell ck))
    ∗ bigSep Finset.univ fun ck : Dev nD × Fin 11 => reached ER (kcell ck) 0)

instance records_persistent (K : Dev nD × Fin 11 → ℕ) : BI.Persistent (records m ρ K) := by unfold records; infer_instance

theorem inv_at (K : Dev nD × Fin 11 → ℕ) (ck : Dev nD × Fin 11) : records m ρ K ⊢ cellInv ER (Rd m ρ) (K ck) (kcell ck) := by
  unfold records
  iintro ⟨H, -⟩
  have h : (bigSep Finset.univ fun ck : Dev nD × Fin 11 => (cellInv ER (Rd m ρ) (K ck) (kcell ck) : sProp 𝕄)) ⊢ cellInv ER (Rd m ρ) (K ck) (kcell ck) :=
    bigSep_elim (Finset.mem_univ ck)
  iapply h
  iexact H
theorem reached_at (K : Dev nD × Fin 11 → ℕ) (ck : Dev nD × Fin 11) : records m ρ K ⊢ reached ER (kcell ck) 0 := by
  unfold records
  iintro ⟨-, H⟩
  have h : (bigSep Finset.univ fun ck : Dev nD × Fin 11 => (reached ER (kcell ck) 0 : sProp 𝕄)) ⊢ reached ER (kcell ck) 0 :=
    bigSep_elim (Finset.mem_univ ck)
  iapply h
  iexact H

/-- The device paying a device's `k`-th counter: itself for the five transfers out, the peer for the others. -/
def payer (k : Fin 11) (c : Dev nD) : Dev nD := if 1 ≤ k.val ∧ k.val ≤ 5 then c else peer c

theorem payer_payer (k : Fin 11) (c : Dev nD) : payer k (payer k c) = c := by
  unfold payer; split
  · rfl
  · exact peer_peer c

def at0 (c : Dev nD) (k : Fin 11) : sProp 𝕄 := atPos ER (kcell (c, k)) 0 ∅ 0
def at1 (c : Dev nD) (k : Fin 11) : sProp 𝕄 := atPos ER (kcell (c, k)) 1 ∅ 0
def tok (c : Dev nD) (k : Fin 11) : sProp 𝕄 := dutyTok ER (kcell (c, k)) 0 ()
def crd (c : Dev nD) (k : Fin 11) : sProp 𝕄 := cred (tallyAt (kcell (c, k)) () (amt k))
def zer (c : Dev nD) (k : Fin 11) : sProp 𝕄 := semVal (kcell (c, k)) 0

omit [FloatOps F] in
theorem bigSep_fin11 (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- The records, the device's eleven positions, the eleven tokens it pays with. -/
def ghost (K : Dev nD × Fin 11 → ℕ) (c : Dev nD) : sProp 𝕄 :=
  iprop(records m ρ K ∗ (bigSep Finset.univ fun k => at0 c k) ∗ bigSep Finset.univ fun k => tok (payer k c) k)

/-- With the credits of the counters others pay, and the levels. -/
def creds (c : Dev nD) : sProp 𝕄 := iprop(crd c 0 ∗ crd c 6 ∗ crd c 7 ∗ crd c 8 ∗ crd c 9 ∗ crd c 10)
def start (c : Dev nD) : sProp 𝕄 := iprop((∃ K, ghost m ρ K c) ∗ creds c ∗ levAts L lv)

/-- The six scratch buffers, at any contents. -/
def bufs (c : Dev nD) : sProp 𝕄 :=
  iprop((∃ f, pts xsM c f) ∗ (∃ f, pts xrM c f) ∗ (∃ f, pts rsM c f) ∗ (∃ f, pts rrM c f) ∗ (∃ f, pts ysM c f) ∗ ∃ f, pts yrM c f)

def Φ₀ (c : Dev nD) : sProp 𝕄 := iprop(start m ρ c ∗ bufs c)
/-- At the end: the scratch buffers, and every counter at zero. -/
def Φ₁ (c : Dev nD) : sProp 𝕄 := iprop(bufs c ∗ bigSep Finset.univ fun k => zer c k)

/-! ## Loads and stores -/

section Mem

theorem wp_load_pts {α : Type} {Q : α → sProp 𝕄} {s : Shape} {e : EltTy} (M : Memref sig .tc .vmem s e) (c : Dev nD) (f : Buf (Elt F) (M.view.loc (c : Thread nD τ)))
    {r : LoadRect s} {hl : M.view.LoadsAt r} {k : (r.shape.Idx → Elt F e) → Prog (TpuEff nD τ sig (Elt F) Λ₀ .tc) α} :
    pts M c f ⊢ iprop((pts M c f -∗ wp frame (wpE (defs₀ (F := F)) 𝒱₀ (c : Thread nD τ) none) Set.univ (k (M.view.readAt (Elt F) r f)) Q)
      -∗ wp frame (wpE (defs₀ (F := F)) 𝒱₀ (c : Thread nD τ) none) Set.univ (.op (.load M r hl) k) Q) := by
  unfold pts
  exact wp_load 𝒱₀ (c : Thread nD τ) none Set.univ (m := M) (View.setOn_subset_set _ _)

theorem wp_load_sl0 {α : Type} {Q : α → sProp 𝕄} (M : Memref sig .tc .vmem S2x128x512 .bf16) (c : Dev nD) (f : Buf (Elt F) (M.view.loc (c : Thread nD τ)))
    {hl : M.view.LoadsAt rc0.toLoadRect} {k : (rc0.toLoadRect.shape.Idx → Elt F .bf16) → Prog (TpuEff nD τ sig (Elt F) Λ₀ .tc) α} :
    pts (sl0 M) c f ⊢ iprop((pts (sl0 M) c f -∗ wp frame (wpE (defs₀ (F := F)) 𝒱₀ (c : Thread nD τ) none) Set.univ (k (M.view.readAt (Elt F) rc0.toLoadRect f)) Q)
      -∗ wp frame (wpE (defs₀ (F := F)) 𝒱₀ (c : Thread nD τ) none) Set.univ (.op (.load M rc0.toLoadRect hl) k) Q) := by
  unfold pts
  exact wp_load 𝒱₀ (c : Thread nD τ) none Set.univ (m := M) (by rw [set_sl0])

theorem wp_load_sl1 {α : Type} {Q : α → sProp 𝕄} (M : Memref sig .tc .vmem S2x128x512 .bf16) (c : Dev nD) (f : Buf (Elt F) (M.view.loc (c : Thread nD τ)))
    {hl : M.view.LoadsAt rc1.toLoadRect} {k : (rc1.toLoadRect.shape.Idx → Elt F .bf16) → Prog (TpuEff nD τ sig (Elt F) Λ₀ .tc) α} :
    pts (sl1 M) c f ⊢ iprop((pts (sl1 M) c f -∗ wp frame (wpE (defs₀ (F := F)) 𝒱₀ (c : Thread nD τ) none) Set.univ (k (M.view.readAt (Elt F) rc1.toLoadRect f)) Q)
      -∗ wp frame (wpE (defs₀ (F := F)) 𝒱₀ (c : Thread nD τ) none) Set.univ (.op (.load M rc1.toLoadRect hl) k) Q) := by
  unfold pts
  exact wp_load 𝒱₀ (c : Thread nD τ) none Set.univ (m := M) (by rw [set_sl1])

theorem wp_store_pts {α : Type} {Q : α → sProp 𝕄} {s : Shape} {e : EltTy} (M : Memref sig .tc .vmem s e) (c : Dev nD) (f : Buf (Elt F) (M.view.loc (c : Thread nD τ)))
    {r : Rect s} {w : r.shape.Idx → Elt F e} {h1} {h2} {k : PUnit → Prog (TpuEff nD τ sig (Elt F) Λ₀ .tc) α} :
    pts M c f ⊢ iprop((pts M c ((M.access r).write (Elt F) f w Finset.univ) -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ h1 h2) k) Q) := by
  unfold pts
  exact wp_store 𝒱₀ (c : Thread nD τ) none Set.univ (m := M) (r := r) (Mk := Finset.univ)
    (((M.access r).setOn_subset_set _).trans (View.set_slice_subset _ _))

theorem wp_store_sl1 {α : Type} {Q : α → sProp 𝕄} (M : Memref sig .tc .vmem S2x128x512 .bf16) (c : Dev nD) (f : Buf (Elt F) (M.view.loc (c : Thread nD τ)))
    {w : rc1.shape.Idx → Elt F .bf16} {h1} {h2} {k : PUnit → Prog (TpuEff nD τ sig (Elt F) Λ₀ .tc) α} :
    pts (sl1 M) c f ⊢ iprop((pts (sl1 M) c ((M.access rc1).write (Elt F) f w Finset.univ) -∗ wp frame (wpE (defs₀ (F := F)) 𝒱₀ (c : Thread nD τ) none) Set.univ (k ⟨⟩) Q)
      -∗ wp frame (wpE (defs₀ (F := F)) 𝒱₀ (c : Thread nD τ) none) Set.univ (.op (.store M rc1 w Finset.univ h1 h2) k) Q) := by
  unfold pts
  exact wp_store 𝒱₀ (c : Thread nD τ) none Set.univ (m := M) (r := rc1) (Mk := Finset.univ)
    (by rw [Memref.set_view_squeeze, View.setOn_univ])

end Mem

/-! ## Signal, transfer, wait, close -/

section Proto
variable (K : Dev nD × Fin 11 → ℕ) (c : Dev nD)

/-- The entry signal: the peer's barrier gets the device's landing places. -/
theorem wp_signal_peer {α : Type} {Q : α → sProp 𝕄} (n : Dev nD) (hn : n = peer c) {W : Waits sig Unit} {k : PUnit → Prog (TpuEff nD τ sig (Elt F) Λ₀ .tc) α} :
    iprop(records m ρ K ∗ owes (c : Thread nD τ) (O₀ c) W ∗ tok (peer c) 0 ∗ payOf m ρ 0 (peer c))
      ⊢ iprop((owes (c : Thread nD τ) (Oₓ c) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS 1) k) Q) := by
  subst hn
  unfold tok
  iintro ⟨#HR, HO, Ht, Hp⟩
  iapply (Rounds.wp_signal 𝒱₀ ER (Rd m ρ) (c : Thread nD τ) none (dst := (peer c : Thread nD τ)) (sem := barS) (κ := K (peer c, 0)) (r := 0)
      (d := ()) (mem_duties m ρ (peer c) 0) (amount_cell m ρ (peer c) 0 ()) () (Oₓ c) rfl)
  isplitr; · iapply (inv_at m ρ K (peer c, 0)); iexact HR
  isplitl [HO]; · iexact HO
  isplitl [Ht]; · iexact Ht
  isplitl [Hp]; · iapply (Entails.of_eq (payload_cell m ρ (peer c) 0 ()).symm); iexact Hp
  iapply (reached_at m ρ K (peer c, 0)); iexact HR

/-- A transfer to the peer, from the device's `ks`-th counter to the peer's `kr`-th. -/
theorem wp_send_peer {α : Type} {Q : α → sProp 𝕄} (n : Dev nD) (hn : n = peer c) {s : Shape} {e : EltTy} (src dst : Memref sig .tc .vmem s e) (ks kr : Fin 11) (ss rs : DmaSem sig)
    (hss : csem ks = .dma ss) (hrs : csem kr = .dma rs) (hN : dst.view.amount (.dma rs) = amt kr) (hN' : amt ks = amt kr)
    (fs : Buf (Elt F) (src.view.loc (c : Thread nD τ))) (fd : Buf (Elt F) (dst.view.loc (peer c : Thread nD τ)))
    (h1 : pts src c fs ⊢ payOf m ρ ks c)
    (h2 : pts dst (peer c) (dst.view.write (Elt F) fd (src.view.read (Elt F) fs) Finset.univ) ⊢ payOf m ρ kr (peer c))
    {O' : CellTallies nD τ sig Unit} (O : CellTallies nD τ sig Unit) (hO : O' = O + due c kr) {W : Waits sig Unit}
    {hsc : dst.view.ref.isScScratch = false} {hsrc : src.view.WordExact} {hdst : dst.view.WordExact}
    {hsem : DmaTarget.Typed .vmem (.dma rs) (.remote (Dev.tc n : Thread nD τ) dst (.dma ss) hsc)}
    {k : PUnit → Prog (TpuEff nD τ sig (Elt F) Λ₀ .tc) α} :
    iprop(records m ρ K ∗ pts src c fs ∗ pts dst (peer c) fd ∗ owes (c : Thread nD τ) O' W ∗ tok c ks ∗ tok (peer c) kr)
      ⊢ iprop(((crd c ks ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma ss) hsc) (.dma rs) hsrc hdst hsem) k) Q) := by
  subst hn
  have e1 : kcell (c, ks) = ((c : Thread nD τ), SemLoc.dma ss) := by rw [← hss]
  have e2 : kcell (peer c, kr) = ((peer c : Thread nD τ), SemLoc.dma rs) := by rw [← hrs]
  have hd1 := mem_duties m ρ c ks
  have hd2 := mem_duties m ρ (peer c) kr
  have ha1 := (amount_cell m ρ c ks ()).trans hN'
  have ha2 := amount_cell m ρ (peer c) kr ()
  have hp1 := h1.trans (Entails.of_eq (payload_cell m ρ c ks ()).symm)
  have hp2 := h2.trans (Entails.of_eq (payload_cell m ρ (peer c) kr ()).symm)
  unfold due at hO
  unfold tok crd
  iintro ⟨#HR, Hs, Hd, HO, Ht1, Ht2⟩
  ihave #HI1 := (inv_at m ρ K (c, ks)) $$ HR
  ihave #HI2 := (inv_at m ρ K (peer c, kr)) $$ HR
  ihave #HR1 := (reached_at m ρ K (c, ks)) $$ HR
  ihave #HR2 := (reached_at m ρ K (peer c, kr)) $$ HR
  rw [hN']
  rw [e1] at hd1 ha1 hp1 ⊢
  rw [e2] at hd2 ha2 hp2 hO ⊢
  unfold pts at hp1 hp2 ⊢
  iapply (Rounds.wp_send_pointsTo 𝒱₀ ER (Rd m ρ) (c : Thread nD τ) none (c' := (peer c : Thread nD τ)) (κ₁ := K (c, ks)) (κ₂ := K (peer c, kr))
    (r₁ := 0) (r₂ := 0) (d₁ := ()) (d₂ := ()) (fs := fs) (fd := fd) (src := src) (dst := dst) hd1 hd2 () () (amt kr) hN ha1 ha2 O hO (W := W) hp1 hp2)
  isplitr; · iexact HI1
  isplitr; · iexact HI2
  isplitl [Hs]; · iexact Hs
  isplitl [Hd]; · iexact Hd
  isplitl [HO]; · iexact HO
  isplitl [Ht1]; · iexact Ht1
  isplitr; · iexact HR1
  isplitl [Ht2]; · iexact Ht2
  iexact HR2

/-- A wait for a counter's whole amount: what it hands over comes back. -/
theorem wp_wait_cell {α : Type} {Q : α → sProp 𝕄} (k : Fin 11) {w : TpuEff nD τ sig (Elt F) Λ₀ .tc PUnit} {sm : SemLoc sig} {N : ℕ} (hsm : csem k = sm) (hN : N = amt k)
    (hw : ∀ P : PUnit → sProp 𝕄, wpE (defs₀ (F := F)) 𝒱₀ (c : Thread nD τ) none Set.univ w P = waitSpec (c : Thread nD τ) Set.univ sm N P)
    (n : ℕ) (hn : lvK k ≤ n) {O : CellTallies nD τ sig Unit} (hO : Above n O) {W : Waits sig Unit}
    {kk : PUnit → Prog (TpuEff nD τ sig (Elt F) Λ₀ .tc) α} :
    iprop(records m ρ K ∗ levAts L lv ∗ crd c k ∗ owes (c : Thread nD τ) O W ∗ at0 c k)
      ⊢ iprop((((∃ W', owes (c : Thread nD τ) O W') ∗ at1 c k ∗ payOf m ρ k c)
          -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  subst hsm hN
  unfold crd at0 at1
  iintro ⟨#HR, #HL, Hc, HO, Ha⟩ Hk
  iapply (Rounds.wp_wait_rest_token 𝒱₀ ER (Rd m ρ) (c : Thread nD τ) none (κ := K (c, k)) hw (Set.mem_univ _) () (O := O) (W := W) (R := 0) (m := 0) (T := ∅)
      (by rw [Nat.zero_add]; exact (expect_cell m ρ c k).symm)) $$ [Hc HO Ha]
  · isplitr; · iapply (inv_at m ρ K (c, k)); iexact HR
    isplitl [Hc]; · iexact Hc
    isplitl [HO]; · iexact HO
    isplitr; · iapply (mayWait_above c (csem k) n (by rw [lv_cell]; exact hn) O hO); iexact HL
    iexact Ha
  iintro ⟨HO, Ha, -, Hp⟩
  iapply Hk
  isplitl [HO]; · iexists _; iexact HO
  isplitl [Ha]; · iexact Ha
  iapply (Entails.of_eq (rest_cell m ρ c k)); iexact Hp

/-- A counter past its only round closes at zero. -/
theorem close_cell (k : Fin 11) : iprop(records m ρ K ∗ at1 c k) ⊢ iprop(|={Set.univ}=> zer c k) := by
  unfold at1 zer
  iintro ⟨#HR, Ha⟩
  iapply (Rounds.cell_close ER (Rd m ρ) (Set.mem_univ (K (c, k))) (fun h => h) (R := 1) (duties_later m ρ (kcell (c, k))))
  isplitr; · iapply (inv_at m ρ K (c, k)); iexact HR
  iexact Ha

/-- All eleven. -/
theorem close_all : iprop(records m ρ K ∗ bigSep Finset.univ fun k => at1 c k) ⊢ iprop(|={Set.univ}=> bigSep Finset.univ fun k => zer c k) :=
  (bigSep_with_persistent (R := records m ρ K) (Ψ := fun k => iprop(|={Set.univ}=> zer c k)) fun k _ => close_cell m ρ K c k).trans (bigSep_fupd _ _)

end Proto

end Cert.MoeRun

end
-- ==== Proof.Body.lean ====
/- The body: the pipeline's proof data, and the body run effect by effect from what a device starts with to what
   it ends with. -/
module

public import proofs.«01_k».proof.Proof.Steps

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The arrays as launched; the operands' blocks kept, the result's computed; what a device holds, and owes, before
    and after the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => w1stg m ρ c
    | ⟨3, _⟩ => w2stg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Whole reads and writes -/

omit [FloatOps F] in
theorem z2 : (![0, 0] : Fin 2 → Nat) = fun _ => 0 := funext fun a => by fin_cases a <;> rfl
omit [FloatOps F] in
theorem z3 : (![0, 0, 0] : Fin 3 → Nat) = fun _ => 0 := funext fun a => by fin_cases a <;> rfl

omit [FloatOps F] in
theorem rd_x (f : Vec F S256x512 .bf16) : xM.view.readAt (Elt F) (Rect.unit (s := S256x512) ![0, 0] S256x512.size inb_S256x512_S256x512_0_0).toLoadRect f = f :=
  Memref.readAt_unit_zero (Elt F) cc0_stg0_0 z2 _ f
omit [FloatOps F] in
theorem rd_r (f : Vec F S512x2 .bf16) : rM.view.readAt (Elt F) (Rect.unit (s := S512x2) ![0, 0] S512x2.size inb_S512x2_S512x2_0_0).toLoadRect f = f :=
  Memref.readAt_unit_zero (Elt F) cc0_stg1_0 z2 _ f
omit [FloatOps F] in
theorem rd_rs (f : BR F) : rsM.view.readAt (Elt F) (Rect.unit (s := S2x512) ![0, 0] S2x512.size inb_S2x512_S2x512_0_0).toLoadRect f = f :=
  Memref.readAt_unit_zero (Elt F) cc0_scratch2 z2 _ f
omit [FloatOps F] in
theorem rd_rr (f : BR F) : rrM.view.readAt (Elt F) (Rect.unit (s := S2x512) ![0, 0] S2x512.size inb_S2x512_S2x512_0_0).toLoadRect f = f :=
  Memref.readAt_unit_zero (Elt F) cc0_scratch3 z2 _ f
omit [FloatOps F] in
theorem rd_xs (f : B2 F) : xsM.view.readAt (Elt F) (Rect.unit (s := S2x128x512) ![0, 0, 0] S2x128x512.size inb_S2x128x512_S2x128x512_0_0_0).toLoadRect f = f :=
  Memref.readAt_unit_zero (Elt F) cc0_scratch0 z3 _ f
omit [FloatOps F] in
theorem wr_rs (f w : BR F) : (rsM.access (Rect.unit (s := S2x512) ![0, 0] S2x512.size inb_S2x512_S2x512_0_0) : View sig .tc _ _ _).write (Elt F) f w Finset.univ = w :=
  Memref.write_access_unit_zero_univ (Elt F) cc0_scratch2 z2 _ f w
omit [FloatOps F] in
theorem wr_xs (f w : B2 F) :
    (xsM.access (Rect.unit (s := S2x128x512) ![0, 0, 0] S2x128x512.size inb_S2x128x512_S2x128x512_0_0_0) : View sig .tc _ _ _).write (Elt F) f w Finset.univ = w :=
  Memref.write_access_unit_zero_univ (Elt F) cc0_scratch0 z3 _ f w

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xstg m ρ c) ∗ stg c cc0_stg1_0 (rstg m ρ c)
    ∗ stg c cc0_stg2_0 (w1stg m ρ c) ∗ stg c cc0_stg3_0 (w2stg m ρ c) ∗ stg c cc0_stg4_0 (outAt m ρ c))

theorem toks_eq (c : Dev nD) : (bigSep Finset.univ fun k => (tok (payer k c) k : sProp 𝕄))
    = iprop(tok (peer c) 0 ∗ tok c 1 ∗ tok c 2 ∗ tok c 3 ∗ tok c 4 ∗ tok c 5 ∗ tok (peer c) 6 ∗ tok (peer c) 7 ∗ tok (peer c) 8 ∗ tok (peer c) 9 ∗ tok (peer c) 10) :=
  bigSep_fin11 _

set_option maxHeartbeats 4000000 in
set_option maxRecDepth 8000 in
/-- The body from what the device starts with to what it ends with, its result stored. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7) Kt := by
  rw [cc0_body_eq_skeleton]; unfold cc0_body_skel
  unfold bodyPre Φ₀ start creds bufs ghost
  iintro ⟨⟨⟨⟨⟨%K, #HR, Hat, Htk⟩, ⟨Hc0, Hc6, Hc7, Hc8, Hc9, Hc10⟩, #HL⟩, ⟨⟨%fxs, Hxs⟩, ⟨%fxr, Hxr⟩, ⟨%frs, Hrs⟩, ⟨%frr, Hrr⟩, ⟨%fys, Hys⟩, ⟨%fyr, Hyr⟩⟩⟩,
    Ho, ⟨%d0, %g0, %hg0, Hx⟩, ⟨%d1, %g1, %hg1, Hr⟩, ⟨%d2, %g2, %hg2, Hw1⟩, ⟨%d3, %g3, %hg3, Hw2⟩, ⟨%d4, %g4, %hg4, Hout⟩⟩, Hk⟩
  have hx : g0 = xstg m ρ c := by rw [hg0]; unfold Dat.before; rw [if_pos (fetch0_0 t0_0)]; rfl
  have hr : g1 = rstg m ρ c := by rw [hg1]; unfold Dat.before; rw [if_pos (fetch0_1 t0_0)]; rfl
  have hw1 : g2 = w1stg m ρ c := by rw [hg2]; unfold Dat.before; rw [if_pos (fetch0_2 t0_0)]; rfl
  have hw2 : g3 = w2stg m ρ c := by rw [hg3]; unfold Dat.before; rw [if_pos (fetch0_3 t0_0)]; rfl
  subst hx hr hw1 hw2
  clear hg4
  unfold Dat.owesAt Pipeline.owesWithin
  icases Ho with ⟨%W, %hW, HO⟩
  rw [show (dats m ρ 0 c).owed t0_0.castSucc = O₀ c from rfl]
  have ex : (pts xM c (xstg m ρ c) : sProp 𝕄) = (((c : Thread nD τ).loc cc0_stg0_0) ↦{fullShare} xstg m ρ c) := pts_whole cc0_stg0_0 rfl c _
  have er : (pts rM c (rstg m ρ c) : sProp 𝕄) = (((c : Thread nD τ).loc cc0_stg1_0) ↦{fullShare} rstg m ρ c) := pts_whole cc0_stg1_0 rfl c _
  have e1 : (pts w1M c (w1stg m ρ c) : sProp 𝕄) = (((c : Thread nD τ).loc cc0_stg2_0) ↦{fullShare} w1stg m ρ c) := pts_whole cc0_stg2_0 rfl c _
  have e2 : (pts w2M c (w2stg m ρ c) : sProp 𝕄) = (((c : Thread nD τ).loc cc0_stg3_0) ↦{fullShare} w2stg m ρ c) := pts_whole cc0_stg3_0 rfl c _
  have eo : ∀ f : Vec F S256x512 .f32, (pts oM c f : sProp 𝕄) = (((c : Thread nD τ).loc cc0_stg4_0) ↦{fullShare} f) := fun f => pts_whole cc0_stg4_0 rfl c f
  ihave Hx := (Entails.of_eq ex.symm) $$ Hx
  ihave Hr := (Entails.of_eq er.symm) $$ Hr
  ihave Hw1 := (Entails.of_eq e1.symm) $$ Hw1
  ihave Hw2 := (Entails.of_eq e2.symm) $$ Hw2
  ihave Hout := (Entails.of_eq (eo g4).symm) $$ Hout
  ihave Htk := (Entails.of_eq (toks_eq c)) $$ Htk
  icases Htk with ⟨Ht0, Ht1, Ht2, Ht3, Ht4, Ht5, Ht6, Ht7, Ht8, Ht9, Ht10⟩
  ihave Hat := (Entails.of_eq (bigSep_fin11 fun k => at0 c k)) $$ Hat
  icases Hat with ⟨Ha0, Ha1, Ha2, Ha3, Ha4, Ha5, Ha6, Ha7, Ha8, Ha9, Ha10⟩
  ihave Hxr := (pts_slots xrM c fxr).1 $$ Hxr
  icases Hxr with ⟨Hxr0, Hxr1⟩
  ihave Hyr := (pts_slots yrM c fyr).1 $$ Hyr
  icases Hyr with ⟨Hyr0, Hyr1⟩
  -- part 1
  rw [k0_part1_eq_skeleton]; unfold k0_part1_skel
  simp only [semSignalWord, semWaitWord, Prog.lift, Prog.bind_op, Prog.bind_ret, Prog.pure_eq_ret, wp_deviceId]
  iapply (wp_signal_peer m ρ K c _ (dev1_eq c)) $$ [HO Ht0 Hrr Hxr0 Hxr1 Hyr0 Hyr1]
  · isplitr; · iexact HR
    isplitl [HO]; · iexact HO
    isplitl [Ht0]; · iexact Ht0
    unfold payOf; rw [peer_peer]
    isplitl [Hrr]; · iexists _; iexact Hrr
    isplitl [Hxr0]; · iexists _; iexact Hxr0
    isplitl [Hxr1]; · iexists _; iexact Hxr1
    isplitl [Hyr0]; · iexists _; iexact Hyr0
    iexists _; iexact Hyr1
  iintro HO
  iapply (wp_load_pts rM c (rstg m ρ c)) $$ Hr; iintro Hr
  iapply (wp_load_pts rsM c frs) $$ Hrs; iintro Hrs
  iapply (wp_store_pts rsM c frs) $$ Hrs; iintro Hrs
  rw [rd_r, wr_rs]
  iapply (wp_load_pts xM c (xstg m ρ c)) $$ Hx; iintro Hx
  iapply (wp_load_pts xsM c fxs) $$ Hxs; iintro Hxs
  iapply (wp_store_pts xsM c fxs) $$ Hxs; iintro Hxs
  rw [rd_x, wr_xs]
  rw [show k0_pay2 (rstg m ρ c) = rs m ρ c from rfl, show k0_pay3 (xstg m ρ c) = xs m ρ c from rfl]
  iapply (wp_wait_cell m ρ K c 0 (sm := .reg barS) rfl rfl (wpE_semWait_eq 𝒱₀ (c : Thread nD τ) none Set.univ) 1 (by decide) (above_Oₓ c)) $$ [Hc0 HO Ha0]
  · isplitr; · iexact HR
    isplitr; · iexact HL
    isplitl [Hc0]; · iexact Hc0
    isplitl [HO]; · iexact HO
    iexact Ha0
  iintro ⟨⟨%W0, HO⟩, Ha0, Hp⟩
  ihave Hp := (Entails.of_eq (show payOf m ρ 0 c = iprop((∃ f, pts rrM (peer c) f) ∗ (∃ f, pts (sl0 xrM) (peer c) f) ∗ (∃ f, pts (sl1 xrM) (peer c) f)
      ∗ (∃ f, pts (sl0 yrM) (peer c) f) ∗ ∃ f, pts (sl1 yrM) (peer c) f) from rfl)) $$ Hp
  icases Hp with ⟨⟨%prr, Hprr⟩, ⟨%px0, Hpx0⟩, ⟨%px1, Hpx1⟩, ⟨%py0, Hpy0⟩, ⟨%py1, Hpy1⟩⟩
  -- part 2
  rw [k0_part2_eq_skeleton]; unfold k0_part2_skel
  simp only [semSignalWord, semWaitWord, Prog.lift, Prog.bind_op, Prog.bind_ret, Prog.pure_eq_ret, wp_deviceId]
  iapply (wp_send_peer m ρ K c _ (dev2_eq c) rsM rrM 1 6 (sS 0) (sR 0) rfl rfl (show NR = _ from amt_6.symm) (amt_1.trans amt_6.symm) (rs m ρ c) prr (Entails.refl _)
    (by rw [landed_r]; unfold payOf; rw [peer_peer]) (O₁ c) rfl) $$ [Hrs Hprr HO Ht1 Ht6]
  · isplitr; · iexact HR
    isplitl [Hrs]; · iexact Hrs
    isplitl [Hprr]; · iexact Hprr
    isplitl [HO]; · iexact HO
    isplitl [Ht1]; · iexact Ht1
    iexact Ht6
  iintro ⟨Hc1, HO⟩
  ihave Hxs := (pts_slots xsM c (xs m ρ c)).1 $$ Hxs
  icases Hxs with ⟨Hxs0, Hxs1⟩
  iapply (wp_send_peer m ρ K c _ (dev3_eq c) (sl0 xsM) (sl0 xrM) 2 7 (sS 1) (sR 1) rfl rfl (show NX = _ from (amt_of 7).symm) ((amt_of 2).trans (amt_of 7).symm) (xs m ρ c) px0 (Entails.refl _)
    (by rw [landed_x0]; unfold payOf; rw [peer_peer]) (O₂ c) rfl) $$ [Hxs0 Hpx0 HO Ht2 Ht7]
  · isplitr; · iexact HR
    isplitl [Hxs0]; · iexact Hxs0
    isplitl [Hpx0]; · iexact Hpx0
    isplitl [HO]; · iexact HO
    isplitl [Ht2]; · iexact Ht2
    iexact Ht7
  iintro ⟨Hc2, HO⟩
  -- part 3
  rw [k0_part3_eq_skeleton]; unfold k0_part3_skel
  simp only [semSignalWord, semWaitWord, Prog.lift, Prog.bind_op, Prog.bind_ret, Prog.pure_eq_ret, wp_deviceId]
  iapply (wp_send_peer m ρ K c _ (dev4_eq c) (sl1 xsM) (sl1 xrM) 3 8 (sS 2) (sR 2) rfl rfl (show NX = _ from (amt_of 8).symm) ((amt_of 3).trans (amt_of 8).symm) (xs m ρ c) px1 (Entails.refl _)
    (by rw [landed_x1]; unfold payOf; rw [peer_peer]) (O₃ c) rfl) $$ [Hxs1 Hpx1 HO Ht3 Ht8]
  · isplitr; · iexact HR
    isplitl [Hxs1]; · iexact Hxs1
    isplitl [Hpx1]; · iexact Hpx1
    isplitl [HO]; · iexact HO
    isplitl [Ht3]; · iexact Ht3
    iexact Ht8
  iintro ⟨Hc3, HO⟩
  iapply (wp_load_pts w1M c (w1stg m ρ c)) $$ Hw1; iintro Hw1
  iapply (wp_load_pts w1M c (w1stg m ρ c)) $$ Hw1; iintro Hw1
  iapply (wp_load_pts w2M c (w2stg m ρ c)) $$ Hw2; iintro Hw2
  iapply (wp_load_pts w2M c (w2stg m ρ c)) $$ Hw2; iintro Hw2
  rw [show w1M.view.readAt (Elt F) ra0.toLoadRect (w1stg m ρ c) = w1a m ρ c from rfl, show w1M.view.readAt (Elt F) ra1.toLoadRect (w1stg m ρ c) = w1b m ρ c from rfl,
    show w2M.view.readAt (Elt F) rb0.toLoadRect (w2stg m ρ c) = w2a m ρ c from rfl, show w2M.view.readAt (Elt F) rb1.toLoadRect (w2stg m ρ c) = w2b m ρ c from rfl]
  iapply (wp_wait_cell m ρ K c 1 (sm := .dma (sS 0)) rfl (show rsM.view.dmaCredit = _ from amt_1.symm) (wpE_waitDma2_eq (src := rrM) (dst := rsM) 𝒱₀ (c : Thread nD τ) none Set.univ) 2 (by decide) (above_O₃ c)) $$ [Hc1 HO Ha1]
  · isplitr; · iexact HR
    isplitr; · iexact HL
    isplitl [Hc1]; · iexact Hc1
    isplitl [HO]; · iexact HO
    iexact Ha1
  iintro ⟨⟨%W1, HO⟩, Ha1, Hrs⟩
  ihave Hrs := (Entails.of_eq (show payOf m ρ 1 c = pts rsM c (rs m ρ c) from rfl)) $$ Hrs
  iapply (wp_wait_cell m ρ K c 6 (sm := .dma (sR 0)) rfl (show rrM.view.dmaCredit = _ from amt_6.symm) (wpE_waitDma2_eq (src := rsM) (dst := rrM) 𝒱₀ (c : Thread nD τ) none Set.univ) 2 (by decide) (above_O₃ c)) $$ [Hc6 HO Ha6]
  · isplitr; · iexact HR
    isplitr; · iexact HL
    isplitl [Hc6]; · iexact Hc6
    isplitl [HO]; · iexact HO
    iexact Ha6
  iintro ⟨⟨%W6, HO⟩, Ha6, Hrr⟩
  ihave Hrr := (Entails.of_eq (show payOf m ρ 6 c = pts rrM c (rs m ρ (peer c)) from rfl)) $$ Hrr
  -- part 4
  rw [k0_part4_eq_skeleton]; unfold k0_part4_skel
  simp only [semSignalWord, semWaitWord, Prog.lift, Prog.bind_op, Prog.bind_ret, Prog.pure_eq_ret, wp_deviceId]
  iapply (wp_wait_cell m ρ K c 2 (sm := .dma (sS 1)) rfl (show (sl0 xsM).view.dmaCredit = _ from (amt_of 2).symm) (wpE_waitDma2_eq (src := (sl0 xrM)) (dst := (sl0 xsM)) 𝒱₀ (c : Thread nD τ) none Set.univ) 2 (by decide) (above_O₃ c)) $$ [Hc2 HO Ha2]
  · isplitr; · iexact HR
    isplitr; · iexact HL
    isplitl [Hc2]; · iexact Hc2
    isplitl [HO]; · iexact HO
    iexact Ha2
  iintro ⟨⟨%W2, HO⟩, Ha2, Hxs0⟩
  ihave Hxs0 := (Entails.of_eq (show payOf m ρ 2 c = pts (sl0 xsM) c (xs m ρ c) from rfl)) $$ Hxs0
  iapply (wp_wait_cell m ρ K c 7 (sm := .dma (sR 1)) rfl (show (sl0 xrM).view.dmaCredit = _ from (amt_of 7).symm) (wpE_waitDma2_eq (src := (sl0 xsM)) (dst := (sl0 xrM)) 𝒱₀ (c : Thread nD τ) none Set.univ) 2 (by decide) (above_O₃ c)) $$ [Hc7 HO Ha7]
  · isplitr; · iexact HR
    isplitr; · iexact HL
    isplitl [Hc7]; · iexact Hc7
    isplitl [HO]; · iexact HO
    iexact Ha7
  iintro ⟨⟨%W7, HO⟩, Ha7, Hxr0⟩
  ihave Hxr0 := (Entails.of_eq (show payOf m ρ 7 c = pts (sl0 xrM) c (xs m ρ (peer c)) from rfl)) $$ Hxr0
  iapply (wp_load_sl0 xrM c (xs m ρ (peer c))) $$ Hxr0; iintro Hxr0
  iapply (wp_load_pts rsM c (rs m ρ c)) $$ Hrs; iintro Hrs
  iapply (wp_load_pts rrM c (rs m ρ (peer c))) $$ Hrr; iintro Hrr
  rw [rd_rs, rd_rr]
  -- part 5
  rw [k0_part5_eq_skeleton]; unfold k0_part5_skel
  simp only [semSignalWord, semWaitWord, Prog.lift, Prog.bind_op, Prog.bind_ret, Prog.pure_eq_ret, wp_deviceId]
  -- part 6
  rw [k0_part6_eq_skeleton]; unfold k0_part6_skel
  simp only [semSignalWord, semWaitWord, Prog.lift, Prog.bind_op, Prog.bind_ret, Prog.pure_eq_ret, wp_deviceId]
  -- part 7
  rw [k0_part7_eq_skeleton]; unfold k0_part7_skel
  simp only [semSignalWord, semWaitWord, Prog.lift, Prog.bind_op, Prog.bind_ret, Prog.pure_eq_ret, wp_deviceId]
  iapply (wp_load_pts ysM c fys) $$ Hys; iintro Hys
  iapply (wp_store_pts ysM c fys (r := rc0) (w := ya m ρ c)) $$ Hys; iintro Hys
  ihave Hys := (pts_slots ysM c _).1 $$ Hys
  icases Hys with ⟨Hys0, Hys1⟩
  ihave Hys0 := (show _ ⊢ pts (sl0 ysM) c (ys m ρ c) from Entails.of_eq (stored_y0 m ρ c fys)) $$ Hys0
  -- part 8
  rw [k0_part8_eq_skeleton]; unfold k0_part8_skel
  simp only [semSignalWord, semWaitWord, Prog.lift, Prog.bind_op, Prog.bind_ret, Prog.pure_eq_ret, wp_deviceId]
  iapply (wp_send_peer m ρ K c _ (dev5_eq c) (sl0 ysM) (sl0 yrM) 4 9 (sS 3) (sR 3) rfl rfl (show NX = _ from (amt_of 9).symm) ((amt_of 4).trans (amt_of 9).symm) (ys m ρ c) py0 (Entails.refl _)
    (by rw [landed_y0]; unfold payOf; rw [peer_peer]) (O₄ c) rfl) $$ [Hys0 Hpy0 HO Ht4 Ht9]
  · isplitr; · iexact HR
    isplitl [Hys0]; · iexact Hys0
    isplitl [Hpy0]; · iexact Hpy0
    isplitl [HO]; · iexact HO
    isplitl [Ht4]; · iexact Ht4
    iexact Ht9
  iintro ⟨Hc4, HO⟩
  iapply (wp_wait_cell m ρ K c 3 (sm := .dma (sS 2)) rfl (show (sl1 xsM).view.dmaCredit = _ from (amt_of 3).symm) (wpE_waitDma2_eq (src := (sl1 xrM)) (dst := (sl1 xsM)) 𝒱₀ (c : Thread nD τ) none Set.univ) 2 (by decide) (above_O₄ c)) $$ [Hc3 HO Ha3]
  · isplitr; · iexact HR
    isplitr; · iexact HL
    isplitl [Hc3]; · iexact Hc3
    isplitl [HO]; · iexact HO
    iexact Ha3
  iintro ⟨⟨%W3, HO⟩, Ha3, Hxs1⟩
  ihave Hxs1 := (Entails.of_eq (show payOf m ρ 3 c = pts (sl1 xsM) c (xs m ρ c) from rfl)) $$ Hxs1
  iapply (wp_wait_cell m ρ K c 8 (sm := .dma (sR 2)) rfl (show (sl1 xrM).view.dmaCredit = _ from (amt_of 8).symm) (wpE_waitDma2_eq (src := (sl1 xsM)) (dst := (sl1 xrM)) 𝒱₀ (c : Thread nD τ) none Set.univ) 2 (by decide) (above_O₄ c)) $$ [Hc8 HO Ha8]
  · isplitr; · iexact HR
    isplitr; · iexact HL
    isplitl [Hc8]; · iexact Hc8
    isplitl [HO]; · iexact HO
    iexact Ha8
  iintro ⟨⟨%W8, HO⟩, Ha8, Hxr1⟩
  ihave Hxr1 := (Entails.of_eq (show payOf m ρ 8 c = pts (sl1 xrM) c (xs m ρ (peer c)) from rfl)) $$ Hxr1
  iapply (wp_load_sl1 xrM c (xs m ρ (peer c))) $$ Hxr1; iintro Hxr1
  -- part 9
  rw [k0_part9_eq_skeleton]; unfold k0_part9_skel
  simp only [semSignalWord, semWaitWord, Prog.lift, Prog.bind_op, Prog.bind_ret, Prog.pure_eq_ret, wp_deviceId]
  iapply (wp_load_pts rsM c (rs m ρ c)) $$ Hrs; iintro Hrs
  iapply (wp_load_pts rrM c (rs m ρ (peer c))) $$ Hrr; iintro Hrr
  rw [rd_rs, rd_rr]
  -- part 10
  rw [k0_part10_eq_skeleton]; unfold k0_part10_skel
  simp only [semSignalWord, semWaitWord, Prog.lift, Prog.bind_op, Prog.bind_ret, Prog.pure_eq_ret, wp_deviceId]
  -- part 11
  rw [k0_part11_eq_skeleton]; unfold k0_part11_skel
  simp only [semSignalWord, semWaitWord, Prog.lift, Prog.bind_op, Prog.bind_ret, Prog.pure_eq_ret, wp_deviceId]
  -- part 12
  rw [k0_part12_eq_skeleton]; unfold k0_part12_skel
  simp only [semSignalWord, semWaitWord, Prog.lift, Prog.bind_op, Prog.bind_ret, Prog.pure_eq_ret, wp_deviceId]
  iapply (wp_load_sl1 ysM c _) $$ Hys1; iintro Hys1
  iapply (wp_store_sl1 ysM c _ (w := yb m ρ c)) $$ Hys1; iintro Hys1
  ihave Hys1 := (show _ ⊢ pts (sl1 ysM) c (ys m ρ c) from Entails.of_eq (stored_y1 m ρ c _)) $$ Hys1
  iapply (wp_send_peer m ρ K c _ (dev6_eq c) (sl1 ysM) (sl1 yrM) 5 10 (sS 4) (sR 4) rfl rfl (show NX = _ from (amt_of 10).symm) ((amt_of 5).trans (amt_of 10).symm) (ys m ρ c) py1 (Entails.refl _)
    (by rw [landed_y1]; unfold payOf; rw [peer_peer]) 0 (zero_add _).symm) $$ [Hys1 Hpy1 HO Ht5 Ht10]
  · isplitr; · iexact HR
    isplitl [Hys1]; · iexact Hys1
    isplitl [Hpy1]; · iexact Hpy1
    isplitl [HO]; · iexact HO
    isplitl [Ht5]; · iexact Ht5
    iexact Ht10
  iintro ⟨Hc5, HO⟩
  ihave Hxs := (pts_slots xsM c (xs m ρ c)).2 $$ [Hxs0 Hxs1]
  · isplitl [Hxs0] <;> iassumption
  iapply (wp_load_pts xsM c (xs m ρ c)) $$ Hxs; iintro Hxs
  iapply (wp_load_pts rsM c (rs m ρ c)) $$ Hrs; iintro Hrs
  iapply (wp_load_pts rrM c (rs m ρ (peer c))) $$ Hrr; iintro Hrr
  rw [rd_xs, rd_rs, rd_rr]
  -- part 13
  rw [k0_part13_eq_skeleton]; unfold k0_part13_skel
  simp only [semSignalWord, semWaitWord, Prog.lift, Prog.bind_op, Prog.bind_ret, Prog.pure_eq_ret, wp_deviceId]
  -- part 14
  rw [k0_part14_eq_skeleton]; unfold k0_part14_skel
  simp only [semSignalWord, semWaitWord, Prog.lift, Prog.bind_op, Prog.bind_ret, Prog.pure_eq_ret, wp_deviceId]
  -- part 15
  rw [k0_part15_eq_skeleton]; unfold k0_part15_skel
  simp only [semSignalWord, semWaitWord, Prog.lift, Prog.bind_op, Prog.bind_ret, Prog.pure_eq_ret, wp_deviceId]
  iapply (wp_wait_cell m ρ K c 4 (sm := .dma (sS 3)) rfl (show (sl0 ysM).view.dmaCredit = _ from (amt_of 4).symm) (wpE_waitDma2_eq (src := (sl0 yrM)) (dst := (sl0 ysM)) 𝒱₀ (c : Thread nD τ) none Set.univ) 2 (by decide) (Above.zero 2)) $$ [Hc4 HO Ha4]
  · isplitr; · iexact HR
    isplitr; · iexact HL
    isplitl [Hc4]; · iexact Hc4
    isplitl [HO]; · iexact HO
    iexact Ha4
  iintro ⟨⟨%W4, HO⟩, Ha4, Hys0⟩
  ihave Hys0 := (Entails.of_eq (show payOf m ρ 4 c = pts (sl0 ysM) c (ys m ρ c) from rfl)) $$ Hys0
  -- part 16
  rw [k0_part16_eq_skeleton]; unfold k0_part16_skel
  simp only [semSignalWord, semWaitWord, Prog.lift, Prog.bind_op, Prog.bind_ret, Prog.pure_eq_ret, wp_deviceId]
  iapply (wp_wait_cell m ρ K c 9 (sm := .dma (sR 3)) rfl (show (sl0 yrM).view.dmaCredit = _ from (amt_of 9).symm) (wpE_waitDma2_eq (src := (sl0 ysM)) (dst := (sl0 yrM)) 𝒱₀ (c : Thread nD τ) none Set.univ) 3 (by decide) (Above.zero 3)) $$ [Hc9 HO Ha9]
  · isplitr; · iexact HR
    isplitr; · iexact HL
    isplitl [Hc9]; · iexact Hc9
    isplitl [HO]; · iexact HO
    iexact Ha9
  iintro ⟨⟨%W9, HO⟩, Ha9, Hyr0⟩
  ihave Hyr0 := (Entails.of_eq (show payOf m ρ 9 c = pts (sl0 yrM) c (ys m ρ (peer c)) from rfl)) $$ Hyr0
  iapply (wp_load_sl0 yrM c (ys m ρ (peer c))) $$ Hyr0; iintro Hyr0
  iapply (wp_load_pts oM c g4) $$ Hout; iintro Hout
  iapply (wp_store_pts oM c g4 (r := ro0) (w := k0_pay55 (acc m ρ c) (yrM.view.readAt (Elt F) rc0.toLoadRect (ys m ρ (peer c))))) $$ Hout; iintro Hout
  iapply (wp_wait_cell m ρ K c 5 (sm := .dma (sS 4)) rfl (show (sl1 ysM).view.dmaCredit = _ from (amt_of 5).symm) (wpE_waitDma2_eq (src := (sl1 yrM)) (dst := (sl1 ysM)) 𝒱₀ (c : Thread nD τ) none Set.univ) 2 (by decide) (Above.zero 2)) $$ [Hc5 HO Ha5]
  · isplitr; · iexact HR
    isplitr; · iexact HL
    isplitl [Hc5]; · iexact Hc5
    isplitl [HO]; · iexact HO
    iexact Ha5
  iintro ⟨⟨%W5, HO⟩, Ha5, Hys1⟩
  ihave Hys1 := (Entails.of_eq (show payOf m ρ 5 c = pts (sl1 ysM) c (ys m ρ c) from rfl)) $$ Hys1
  simp only [Prog.lift, Prog.bind_op, Prog.bind_ret, Prog.pure_eq_ret]
  iapply (wp_wait_cell m ρ K c 10 (sm := .dma (sR 4)) rfl (show (sl1 yrM).view.dmaCredit = _ from (amt_of 10).symm) (wpE_waitDma2_eq (src := (sl1 ysM)) (dst := (sl1 yrM)) 𝒱₀ (c : Thread nD τ) none Set.univ) 3 (by decide) (Above.zero 3)) $$ [Hc10 HO Ha10]
  · isplitr; · iexact HR
    isplitr; · iexact HL
    isplitl [Hc10]; · iexact Hc10
    isplitl [HO]; · iexact HO
    iexact Ha10
  iintro ⟨⟨%W10, HO⟩, Ha10, Hyr1⟩
  ihave Hyr1 := (Entails.of_eq (show payOf m ρ 10 c = pts (sl1 yrM) c (ys m ρ (peer c)) from rfl)) $$ Hyr1
  iapply (wp_load_sl1 yrM c (ys m ρ (peer c))) $$ Hyr1; iintro Hyr1
  iapply (wp_load_pts oM c _) $$ Hout; iintro Hout
  iapply (wp_store_pts oM c _ (r := ro1) (w := k0_pay1 (acc m ρ c) (yrM.view.readAt (Elt F) rc1.toLoadRect (ys m ρ (peer c))))) $$ Hout; iintro Hout
  ihave Hout := (show _ ⊢ pts oM c (outAt m ρ c) from Entails.of_eq (congrArg (fun f : Vec F S256x512 .f32 => (pts oM c f : sProp 𝕄)) (out_written c g4 _ _ (acc m ρ c)))) $$ Hout
  ihave Hat := (Entails.of_eq (bigSep_fin11 fun k => at1 c k).symm) $$ [Ha0 Ha1 Ha2 Ha3 Ha4 Ha5 Ha6 Ha7 Ha8 Ha9 Ha10]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    iexact Ha10
  imod (close_all m ρ K c) $$ [Hat] with Hz
  · isplitr; · iexact HR
    iexact Hat
  rw [wp_ret]; imodintro
  iapply Hk
  unfold bodyPost Φ₁ bufs Dat.owesAt Pipeline.owesWithin
  rw [show (dats m ρ 0 c).owed t0_0.succ = 0 from rfl]
  isplitl [Hxs Hxr0 Hxr1 Hrs Hrr Hys0 Hys1 Hyr0 Hyr1 Hz]
  · isplitr [Hz]
    · isplitl [Hxs]; · iexists _; iexact Hxs
      isplitl [Hxr0 Hxr1]
      · iapply (pts_join xrM c _ _); isplitl [Hxr0] <;> iassumption
      isplitl [Hrs]; · iexists _; iexact Hrs
      isplitl [Hrr]; · iexists _; iexact Hrr
      isplitl [Hys0 Hys1]
      · iapply (pts_join ysM c _ _); isplitl [Hys0] <;> iassumption
      iapply (pts_join yrM c _ _); isplitl [Hyr0] <;> iassumption
    iexact Hz
  isplitl [HO]
  · iexists W10
    isplitr; · ipureintro; exact fun _ _ => Or.inl trivial
    iexact HO
  isplitl [Hx]
  · iexists _; isplitr; · (ipureintro; rfl)
    iapply (Entails.of_eq ex); iexact Hx
  isplitl [Hr]
  · iexists _; isplitr; · (ipureintro; rfl)
    iapply (Entails.of_eq er); iexact Hr
  isplitl [Hw1]
  · iexists _; isplitr; · (ipureintro; rfl)
    iapply (Entails.of_eq e1); iexact Hw1
  isplitl [Hw2]
  · iexists _; isplitr; · (ipureintro; rfl)
    iapply (Entails.of_eq e2); iexact Hw2
  iexists _; isplitr; · (ipureintro; rfl)
  iapply (Entails.of_eq (eo _)); iexact Hout

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ _ (fun _ => bodyPost m ρ c)
  iintro H
  iapply (sound_body m ρ c fun _ => bodyPost m ρ c)
  isplitl [H]; · iexact H
  iintro H; iexact H

end Cert.MoeRun

end
-- ==== Proof.Run.lean ====
/- The launch: what the start deals each device — its counters, the tokens it pays with, the credits others owe it —
   and the run of @main from any memory, for any float values. -/
module

public import proofs.«01_k».proof.Proof.Body
public import Idealize.ShloMosaic.Lib.Pipeline.CollectiveSegs

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch makes -/

theorem ownSemFacts : Pipeline.OwnSemFacts cfg0.spec osem := by decide

theorem share_eq (c : Dev nD) (w : Fin cfg0.W) : (dats m ρ 0 c).share w = fullShare := by unfold Dat.share; split <;> rfl

/-- Every device's eleven counters, and one payment token for each. -/
def allCells : Finset (GSem nD τ sig) := Finset.univ.map ⟨kcell, kcell_injective⟩
theorem tokOf_injective : Function.Injective (fun ck : Dev nD × Fin 11 => ((kcell ck, 0, ()) : GSem nD τ sig × ℕ × Unit)) :=
  fun _ _ h => kcell_injective (congrArg Prod.fst h)
def allToks : Finset (GSem nD τ sig × ℕ × Unit) := Finset.univ.map ⟨_, tokOf_injective⟩

def u₀ : UU := (initOf (Pipeline.cells cfgs cellOf_inj) (Pipeline.launchToks cfgs cellOf_inj), initOf allCells allToks)

/-- What the launch's element deals device `c`: its counters' states, its positions, its counters' tokens. -/
def G (c : Dev nD) : sProp 𝕄 :=
  iprop((bigSep Finset.univ fun k : Fin 11 => roundState ER (Rd m ρ) (kcell (c, k)) 0)
    ∗ (bigSep Finset.univ fun k : Fin 11 => iprop(at0 c k ∗ reached ER (kcell (c, k)) 0)) ∗ bigSep Finset.univ fun k : Fin 11 => tok c k)

/-- What the devices' common step makes of it. -/
def G' (c : Dev nD) : sProp 𝕄 := iprop(∃ K, ghost m ρ K c)

omit [FloatOps F] in
/-- A family over all counters is one over the devices' eleven each. -/
theorem over_cells (Φ : GSem nD τ sig → sProp 𝕄) :
    bigSep allCells Φ = bigSep Finset.univ fun c : Dev nD => bigSep Finset.univ fun k : Fin 11 => Φ (kcell (c, k)) := by
  unfold allCells; rw [bigSep_map, bigSep_univ_prod]; rfl

omit [FloatOps F] in
theorem over_toks : bigSep allToks (fun x => (dutyTok ER x.1 x.2.1 x.2.2 : sProp 𝕄))
    = bigSep Finset.univ fun c : Dev nD => bigSep Finset.univ fun k : Fin 11 => tok c k := by
  unfold allToks; rw [bigSep_map, bigSep_univ_prod]; rfl

theorem fund_all : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst := (Entails.of_eq (over_cells fun g => roundState ER (Rd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G at0; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop(zer c 1 ∗ zer c 2 ∗ zer c 3 ∗ zer c 4 ∗ zer c 5 ∗ zer c 6 ∗ zer c 7 ∗ zer c 8 ∗ zer c 9 ∗ zer c 10) := by
  rw [Pipeline.ownSems0_eq_of_list c osem [0, 1, 2, 3, 4, 5, 6, 7, 8, 9] (by decide) (by decide)]; rfl
omit [FloatOps F] in
theorem unscopedSems0_eq (c : Dev nD) : (unscopedSems0 c : sProp 𝕄) = zer c 0 := by
  unfold unscopedSems0; rw [bigSep_eq_bigSepL_of_eq [SemLoc.reg barS] (by decide) (by decide)]; rfl

omit [FloatOps F] in
/-- The kernel's own ten counters and the runtime's barrier are the eleven. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 11 => zer c k : sProp 𝕄) := by
  rw [ownSems0_eq, unscopedSems0_eq, bigSep_fin11]

/-- One device's counters opened for the protocol. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(at0 c k ∗ reached ER (kcell (c, k)) 0)) ∗ bigSep Finset.univ fun k : Fin 11 => tok c k) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 11 => zer c k) ∗ bigSep Finset.univ fun k : Fin 11 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to the devices that pay: each counter's to its payer. -/
theorem toks_dealt : (bigSep Finset.univ fun c : Dev nD => bigSep Finset.univ fun k : Fin 11 => (tok c k : sProp 𝕄))
    = bigSep Finset.univ fun c : Dev nD => bigSep Finset.univ fun k : Fin 11 => tok (payer k c) k := by
  have h (k : Fin 11) : (bigSep Finset.univ fun c : Dev nD => (tok c k : sProp 𝕄)) = bigSep Finset.univ fun c : Dev nD => tok (payer k c) k :=
    bigSep_univ_equiv ⟨payer k, payer k, payer_payer k, payer_payer k⟩ fun c : Dev nD => (tok c k : sProp 𝕄)
  simp only [bigSep_fin11, bigSep_sep', h]

theorem regroup :
    (bigSep Finset.univ fun c : Dev nD => iprop((bigSep Finset.univ fun k => iprop(∃ κ : ℕ, cellInv ER (Rd m ρ) κ (kcell (c, k))))
          ∗ (bigSep Finset.univ fun k => iprop(at0 c k ∗ reached ER (kcell (c, k)) 0)) ∗ bigSep Finset.univ fun k : Fin 11 => tok c k) : sProp 𝕄)
      ⊢ bigSep Finset.univ (G' m ρ) := by
  rw [bigSep_sep', bigSep_sep', ← bigSep_univ_prod (fun ck : Dev nD × Fin 11 => iprop(∃ κ : ℕ, cellInv ER (Rd m ρ) κ (kcell ck))),
    bigSep_congr (s := Finset.univ) (fun (c : Dev nD) _ => bigSep_sep' Finset.univ (fun k : Fin 11 => (at0 c k : sProp 𝕄)) (fun k => reached ER (kcell (c, k)) 0)),
    bigSep_sep', ← bigSep_univ_prod (fun ck : Dev nD × Fin 11 => (reached ER (kcell ck) 0 : sProp 𝕄)), toks_dealt]
  iintro ⟨HI, ⟨Hat, #HR⟩, Htk⟩
  ihave HK := (BI.bigSep_exists_pi Finset.univ (fun (ck : Dev nD × Fin 11) (κ : ℕ) => (cellInv ER (Rd m ρ) κ (kcell ck) : sProp 𝕄))) $$ HI
  icases HK with ⟨%K, #HI⟩
  iapply (BI.bigSep_with_persistent (R := records m ρ K)
    (Φ := fun c : Dev nD => iprop((bigSep Finset.univ fun k : Fin 11 => at0 c k) ∗ bigSep Finset.univ fun k : Fin 11 => tok (payer k c) k))
    fun c _ => show iprop(records m ρ K ∗ _) ⊢ G' m ρ c from by
      unfold G' ghost
      iintro H; iexists K; iexact H)
  isplitr
  · unfold records; isplitl; · iexact HI
    iexact HR
  · rw [bigSep_sep']
    isplitl [Hat]; · iexact Hat
    iexact Htk

/-- The common step: every device's counters at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

theorem due_at (d c : Dev nD) (j k : Fin 11) : due d j (kcell (c, k)) () = if d = peer c ∧ j = k then amt k else 0 := by
  rw [tallyAt_apply]
  by_cases h : d = peer c ∧ j = k
  · rw [if_pos h, if_pos ⟨by rw [h.1, h.2, peer_peer], rfl⟩, h.2]
  · rw [if_neg h, if_neg fun h' => h ⟨by rw [(kcell_eq_iff.mp h'.1).1, peer_peer], (kcell_eq_iff.mp h'.1).2.symm⟩]

/-- A device owes its peer's barrier and its peer's five arrivals, and nothing else. -/
theorem owed_cell (d c : Dev nD) (k : Fin 11) (hk : k = 0 ∨ 6 ≤ k.val) : O₀ d (kcell (c, k)) () = if d = peer c then amt k else 0 := by
  unfold O₀ Oₓ O₁ O₂ O₃ O₄
  simp only [Pi.add_apply, Finsupp.add_apply, due_at]
  by_cases h : d = peer c
  · simp only [h, _root_.true_and, if_true]
    fin_cases k <;> first | (exfalso; revert hk; decide) | simp
  · simp only [h, _root_.false_and, if_false]

theorem launch_cell (c : Dev nD) (k : Fin 11) (hk : k = 0 ∨ 6 ≤ k.val) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_cell d c k hk,
    Finset.sum_ite_eq' Finset.univ (peer c) fun _ => amt k, if_pos (Finset.mem_univ _)]

omit [FloatOps F] in
theorem creds_intro (c : Dev nD) : (Pipeline.launchCred O₀ c : sProp 𝕄) ⊢ creds c := by
  unfold Pipeline.launchCred
  have hs : (bigSep Finset.univ fun sm : SemLoc sig => (cred (tallyOn ((c : Thread nD τ), sm) (launchCredit (Pipeline.owing O₀) 0 ((c : Thread nD τ), sm))) : sProp 𝕄))
      ⊢ bigSep (Finset.univ.map ⟨csem, csem_injective⟩) fun sm : SemLoc sig => (cred (tallyOn ((c : Thread nD τ), sm) (launchCredit (Pipeline.owing O₀) 0 ((c : Thread nD τ), sm))) : sProp 𝕄) :=
    bigSep_subset (Finset.subset_univ _)
  refine hs.trans ?_
  rw [bigSep_map, bigSep_fin11]
  iintro ⟨H0, -, -, -, -, -, H6, H7, H8, H9, H10⟩
  unfold creds crd
  rw [← launch_cell c 0 (by decide), ← launch_cell c 6 (by decide), ← launch_cell c 7 (by decide), ← launch_cell c 8 (by decide),
    ← launch_cell c 9 (by decide), ← launch_cell c 10 (by decide)]
  isplitl [H0]; · iexact H0
  isplitl [H6]; · iexact H6
  isplitl [H7]; · iexact H7
  isplitl [H8]; · iexact H8
  isplitl [H9]; · iexact H9
  iexact H10

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

omit [FloatOps F] in
theorem bufs_eq (c : Dev nD) : (Pipeline.scopedRest cfg0.spec c : sProp 𝕄) = bufs c := by
  rw [show cfg0.spec = spec0 from rfl, scopedRest0_eq]
  unfold bufs
  have h0 : ∀ f, (pts xsM c f : sProp 𝕄) = (((c : Thread nD τ).loc cc0_scratch0) ↦{fullShare} f) := fun f => pts_whole cc0_scratch0 rfl c f
  have h1 : ∀ f, (pts xrM c f : sProp 𝕄) = (((c : Thread nD τ).loc cc0_scratch1) ↦{fullShare} f) := fun f => pts_whole cc0_scratch1 rfl c f
  have h2 : ∀ f, (pts rsM c f : sProp 𝕄) = (((c : Thread nD τ).loc cc0_scratch2) ↦{fullShare} f) := fun f => pts_whole cc0_scratch2 rfl c f
  have h3 : ∀ f, (pts rrM c f : sProp 𝕄) = (((c : Thread nD τ).loc cc0_scratch3) ↦{fullShare} f) := fun f => pts_whole cc0_scratch3 rfl c f
  have h4 : ∀ f, (pts ysM c f : sProp 𝕄) = (((c : Thread nD τ).loc cc0_scratch4) ↦{fullShare} f) := fun f => pts_whole cc0_scratch4 rfl c f
  have h5 : ∀ f, (pts yrM c f : sProp 𝕄) = (((c : Thread nD τ).loc cc0_scratch5) ↦{fullShare} f) := fun f => pts_whole cc0_scratch5 rfl c f
  simp only [h0, h1, h2, h3, h4, h5]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq]
  unfold Φ₁
  iintro ⟨Hr, Hz⟩
  ihave Hz := (Entails.of_eq (sems0_eq (F := F) c).symm) $$ Hz
  icases Hz with ⟨HB, HO⟩
  isplitl [HB]; · iexact HB
  isplitl [HO] <;> iassumption

theorem lv_none (c : Dev nD) {sm : SemLoc sig} (h : kidx sm = none) : lv ((c : Thread nD τ), sm) () ≤ 0 := by
  unfold lv; rw [h]

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (by fin_cases w <;> fin_cases s <;> exact lv_none c (by decide)) _ (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of @main on the eight devices
    terminates, with every array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held; -/
theorem finalA_0 (c : Dev nD) : finalA m ρ c (0 : Fin 5) = (s₀ m ρ).mem ((c : Thread nD τ).loc main_arg0) := (dats (F := F) m ρ 0 c).arrAt_in (0 : Fin 5) rfl _
theorem finalA_1 (c : Dev nD) : finalA m ρ c (1 : Fin 5) = (s₀ m ρ).mem ((c : Thread nD τ).loc main_arg1) := (dats (F := F) m ρ 0 c).arrAt_in (1 : Fin 5) rfl _
theorem finalA_2 (c : Dev nD) : finalA m ρ c (2 : Fin 5) = (s₀ m ρ).mem ((c : Thread nD τ).loc main_arg2) := (dats (F := F) m ρ 0 c).arrAt_in (2 : Fin 5) rfl _
theorem finalA_3 (c : Dev nD) : finalA m ρ c (3 : Fin 5) = (s₀ m ρ).mem ((c : Thread nD τ).loc main_arg3) := (dats (F := F) m ρ 0 c).arrAt_in (3 : Fin 5) rfl _

end Cert.MoeRun

end
-- ==== Proof.Frames.lean ====
/- What the run leaves: the result array and the operands, in the words of the claims; the three frames. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Pipeline.ValueKit

@[expose] public section

noncomputable section

namespace Cert.MoeRun

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- An operand's one block is the whole operand. -/
theorem xstg_eq (c : Dev nD) : xstg m ρ c = m ((c : Thread nD τ).loc main_arg0) :=
  funext fun i => by
    show m ((c : Thread nD τ).loc main_arg0) ((win0_0.rect (0 : Fin 1)).emb i) = _
    exact congrArg _ (funext fun a => Fin.ext (Window.rect_emb_val_of_index_zero win0_0 (0 : Fin 1) a rfl i))
theorem rstg_eq (c : Dev nD) : rstg m ρ c = m ((c : Thread nD τ).loc main_arg1) :=
  funext fun i => by
    show m ((c : Thread nD τ).loc main_arg1) ((win0_1.rect (0 : Fin 1)).emb i) = _
    exact congrArg _ (funext fun a => Fin.ext (Window.rect_emb_val_of_index_zero win0_1 (0 : Fin 1) a rfl i))
theorem w1stg_eq (c : Dev nD) : w1stg m ρ c = m ((c : Thread nD τ).loc main_arg2) :=
  funext fun i => by
    show m ((c : Thread nD τ).loc main_arg2) ((win0_2.rect (0 : Fin 1)).emb i) = _
    exact congrArg _ (funext fun a => Fin.ext (Window.rect_emb_val_of_index_zero win0_2 (0 : Fin 1) a rfl i))
theorem w2stg_eq (c : Dev nD) : w2stg m ρ c = m ((c : Thread nD τ).loc main_arg3) :=
  funext fun i => by
    show m ((c : Thread nD τ).loc main_arg3) ((win0_3.rect (0 : Fin 1)).emb i) = _
    exact congrArg _ (funext fun a => Fin.ext (Window.rect_emb_val_of_index_zero win0_3 (0 : Fin 1) a rfl i))

/-- The result array after the run holds what the body stored. -/
theorem finalA_4 (c : Dev nD) : finalA m ρ c (4 : Fin 5) = outAt m ρ c :=
  (dats (F := F) m ρ 0 c).arrAt_eq_of_cover (4 : Fin 5) (outAt m ρ c)
    (fun t _ => funext fun i => by
      obtain rfl := fin_N0 t
      show outAt m ρ c _ = outAt m ρ c ((win0_4.rect (0 : Fin 1)).emb i)
      exact congrArg _ (funext fun a => Fin.ext (Window.rect_emb_val_of_index_zero win0_4 (0 : Fin 1) a rfl i).symm))
    (fun i => ⟨(0 : Fin 1), flush0_4 _, by
      have e : i = (win0_4.rect (0 : Fin 1)).emb i :=
        funext fun a => Fin.ext (Window.rect_emb_val_of_index_zero win0_4 (0 : Fin 1) a rfl i).symm
      have h := ((cfg0.win (4 : Fin 5)).blk (0 : Fin 1)).view.emb_mem_set i
      rw [e]; exact h⟩)

/-- The run in the words of the claims: the result on device `c` is what its body stored, the operands and the counters
    are as at the start. -/
theorem run_stated : θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c (4 : Fin 5)).trans (finalA_4 m ρ c), (h.1 c (0 : Fin 5)).trans (finalA_0 m ρ c),
    (h.1 c (1 : Fin 5)).trans (finalA_1 m ρ c), (h.1 c (2 : Fin 5)).trans (finalA_2 m ρ c), (h.1 c (3 : Fin 5)).trans (finalA_3 m ρ c)⟩, h.2⟩)
    (run_main m ρ)

end Cert.MoeRun

namespace Cert.Proof

open Idealize.ShloMosaic Idealize.SL.Sem

/-- The kernel and its idealization have one text, so one body table. -/
theorem kernel_defs : Cert.Kernel.defs (F := Bits) = Cert.KernelIdeal.defs (F := Bits) :=
  congrArg (Pipeline.defs Cert.KernelIdeal.pcfgs) (congrArg Defs.onTc (funext fun l => match l with | 0 => rfl) :
    Cert.Kernel.defs₀ (F := Bits) = Cert.KernelIdeal.defs₀ (F := Bits))

/-- The kernel ends, nothing faulting, its arguments unchanged and its counters at zero: the run at the bit-exact floats. -/
theorem frame_kernel : Cert.quiescent_Kernel := fun m ρ _ => by
  have h := (θ_run (Cert.KernelIdeal.defs (F := Bits)) (onTc (τ := Cert.KernelIdeal.τ) Cert.KernelIdeal.main) ⟨m, fun _ => 0, ρ⟩).mono
    (fun r (h : (∀ c : Dev Cert.KernelIdeal.nD, _ ∧ _) ∧ _) => And.intro (fun c : Dev Cert.KernelIdeal.nD => (h.1 c).2) h.2)
    (Cert.MoeRun.run_stated (F := Bits) m ρ)
  rw [kernel_defs]
  exact h

/-- The same at the extended reals. -/
theorem frame_kernelIdeal : Cert.quiescent_KernelIdeal := fun m ρ _ =>
  (θ_run Cert.KernelIdeal.defs _ _).mono (fun r h => ⟨fun c => (h.1 c).2, h.2⟩) (Cert.MoeRun.run_stated (F := Ideal) m ρ)

/-- The reference ends, nothing faulting, its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Row.lean ====
/- One output element of a device's half, as a function of scalars; the three printed half-results at an index. -/
module

public import proofs.«01_k».proof.Proof.Frames
public import Idealize.ShloMosaic.Lib.Pointwise

@[expose] public section

set_option maxRecDepth 16384

noncomputable section

namespace Cert.MoeRun

open Cert.KernelIdeal Cert.KernelIdeal.Gen
open Idealize Idealize.ShloMosaic

/-- The word the body adds to a rank for one comparison. -/
def bitW (p : Prop) [Decidable p] : BitVec 32 := if p then 1#32 else 0#32

/-- The value `v` where fewer than two of three comparisons hold, else 0, in the words of the body. -/
def below2 (p q r : Prop) [Decidable p] [Decidable q] [Decidable r] (v : EReal) : EReal :=
  Scalar.select (IntOp.cmpi .slt (IntOp.addi (IntOp.addi (IntOp.addi 0#32 (bitW p)) (bitW q)) (bitW r)) 2#32) v 0

/-- The largest of four gates. -/
def top4 (c : Fin 4 → EReal) : EReal := max (max (c 0) (c 1)) (max (c 2) (c 3))

/-- The four unnormalised weights the body forms of four gates. -/
def wt (c : Fin 4 → EReal) : Fin 4 → EReal :=
  ![below2 (c 0 < c 1) (c 0 < c 2) (c 0 < c 3) (Ideal.exp (c 0 - top4 c)),
    below2 (c 1 ≤ c 0) (c 1 < c 2) (c 1 < c 3) (Ideal.exp (c 1 - top4 c)),
    below2 (c 2 ≤ c 0) (c 2 ≤ c 1) (c 2 < c 3) (Ideal.exp (c 2 - top4 c)),
    below2 (c 3 ≤ c 0) (c 3 ≤ c 1) (c 3 ≤ c 2) (Ideal.exp (c 3 - top4 c))]

/-- The sum the weights are divided by. -/
def denom (c : Fin 4 → EReal) : EReal := wt c 0 + wt c 1 + wt c 2 + wt c 3

/-- A gate: a row of `x` against a column of the router. -/
def dotp (x r : Fin 512 → EReal) : EReal := ∑ d, x d * r d

/-- The four gates as the body lines them up: the experts of the device at coordinate zero come first. -/
def cols (v10 : BitVec 1) (x : Fin 512 → EReal) (o p : Fin 2 → Fin 512 → EReal) : Fin 4 → EReal :=
  ![Scalar.select v10 (dotp x (o 0)) (dotp x (p 0)), Scalar.select v10 (dotp x (o 1)) (dotp x (p 1)),
    Scalar.select v10 (dotp x (p 0)) (dotp x (o 0)), Scalar.select v10 (dotp x (p 1)) (dotp x (o 1))]

/-- One expert's output element: a row through the two matrices with the rectifier between them. -/
def ffn (x : Fin 512 → EReal) (A : Fin 512 → Fin 1024 → EReal) (B : Fin 1024 → EReal) : EReal :=
  ∑ f, max (∑ d, x d * A d f) 0 * B f

/-- One element of a half-result: the device's two experts, weighted. -/
def half (v10 : BitVec 1) (x : Fin 512 → EReal) (o p : Fin 2 → Fin 512 → EReal)
    (A₀ A₁ : Fin 512 → Fin 1024 → EReal) (B₀ B₁ : Fin 1024 → EReal) : EReal :=
  ffn x A₀ B₀ * Ideal.div (Scalar.select v10 (wt (cols v10 x o p) 0) (wt (cols v10 x o p) 2)) (denom (cols v10 x o p))
    + ffn x A₁ B₁ * Ideal.div (Scalar.select v10 (wt (cols v10 x o p) 1) (wt (cols v10 x o p) 3)) (denom (cols v10 x o p))

section
variable (v10 : BitVec 1) (v68 v70 : Vec Ideal S1x512x1024 .bf16) (v72 v74 : Vec Ideal S1x1024x512 .bf16) (o p : BR Ideal)

/-- The first half-result for the peer, at an index. -/
theorem partA_apply (x : Vec Ideal S1x128x512 .bf16) (r : Fin 128) (j : Fin 512) :
    partA v10 v68 v70 v72 v74 x o p (ix3 0 r j)
      = half v10 (fun d => x (ix3 0 r d)) (fun e d => o (ix2 e d)) (fun e d => p (ix2 e d))
          (fun d f => v68 (ix3 0 d f)) (fun d f => v70 (ix3 0 d f)) (fun f => v72 (ix3 0 f j)) (fun f => v74 (ix3 0 f j)) := by
  unfold partA
  unfold_payloads
  pointwise []
  rfl

/-- The second half-result for the peer, at an index. -/
theorem partB_apply (x : Vec Ideal S1x128x512 .bf16) (r : Fin 128) (j : Fin 512) :
    partB v10 v68 v70 v72 v74 x o p (ix3 0 r j)
      = half v10 (fun d => x (ix3 0 r d)) (fun e d => o (ix2 e d)) (fun e d => p (ix2 e d))
          (fun d f => v68 (ix3 0 d f)) (fun d f => v70 (ix3 0 d f)) (fun f => v72 (ix3 0 f j)) (fun f => v74 (ix3 0 f j)) := by
  unfold partB
  unfold_payloads
  pointwise []
  rfl

/-- The device's own half, at an index. -/
theorem partC_apply (x : B2 Ideal) (r : Fin 256) (j : Fin 512) :
    partC v10 v68 v70 v72 v74 x o p (ix2 r j)
      = half v10 (fun d => x (ix3 ⟨r.val / 128, by omega⟩ ⟨r.val % 128, by omega⟩ d)) (fun e d => o (ix2 e d)) (fun e d => p (ix2 e d))
          (fun d f => v68 (ix3 0 d f)) (fun d f => v70 (ix3 0 d f)) (fun f => v72 (ix3 0 f j)) (fun f => v74 (ix3 0 f j)) := by
  unfold partC
  unfold_payloads
  pointwise []
  rfl
end

end Cert.MoeRun
-- ==== Proof.Value.lean ====
/- The result array at an index: the device's own half of its row plus its peer's half of the same row. -/
module

public import proofs.«01_k».proof.Proof.Row

@[expose] public section

set_option maxRecDepth 16384

noncomputable section

namespace Cert.MoeRun

open Cert.KernelIdeal Cert.KernelIdeal.Gen
open Idealize Idealize.ShloMosaic

variable (m : (ℓ : Loc nD τ sig) → Buf (Elt Ideal) ℓ) (ρ : Dev nD → PrngReg)

/-! ## Stores and loads through the rectangles of the body -/

section
variable {sh : Shape} {e : EltTy} {κ : Kind} {sp : Space}

/-- A store through a view, read where the view lands. -/
theorem write_hit (v : View sig κ sp sh e) (f : v.ty.Contents (Elt Ideal)) (w : sh.Idx → Elt Ideal e) (x : sh.Idx) (i : v.ty.Idx)
    (h : v.emb x = i) : HEq (v.write (Elt Ideal) f w Finset.univ i) (w x) := by
  subst h
  rw [View.write_emb_of_mem f w (Finset.mem_univ x)]
  exact cast_heq _ _

/-- A store through a view, read where the view does not land. -/
theorem write_miss (v : View sig κ sp sh e) (f : v.ty.Contents (Elt Ideal)) (w : sh.Idx → Elt Ideal e) (i : v.ty.Idx)
    (h : ∀ x, v.emb x ≠ i) : v.write (Elt Ideal) f w Finset.univ i = f i := by
  refine View.write_of_not_mem f w _ fun hi => ?_
  obtain ⟨x, -, hx⟩ := Finset.mem_map.mp hi
  exact h x hx
end

/-- Two stored planes fill the sent buffer. -/
theorem planes_apply (B : B2 Ideal) (w₀ w₁ : Vec Ideal S1x128x512 .bf16) (a : Fin 2) (b : Fin 128) (j : Fin 512) :
    (ysM.access rc1 : View sig .tc _ _ _).write (Elt Ideal) ((ysM.access rc0 : View sig .tc _ _ _).write (Elt Ideal) B w₀ Finset.univ) w₁ Finset.univ (ix3 a b j)
      = if a = 0 then w₀ (ix3 0 b j) else w₁ (ix3 0 b j) := by
  split
  · next h =>
    subst h
    refine (write_miss (ysM.access rc1) _ _ _ fun x hx => ?_).trans (eq_of_heq (write_hit (ysM.access rc0) _ _ (ix3 0 b j) _ ?_))
    · have h0 : 1 + 1 * (x 0).val = 0 := congrArg (fun i : S2x128x512.Idx => (i 0).val) hx
      omega
    · funext k; apply Fin.ext
      match k with
      | 0 => rfl
      | 1 => show 0 + 1 * b.val = b.val; omega
      | 2 => show 0 + 1 * j.val = j.val; omega
  · next h =>
    have h1 : a = 1 := by omega
    subst h1
    refine eq_of_heq (write_hit (ysM.access rc1) _ _ (ix3 0 b j) _ ?_)
    funext k; apply Fin.ext
    match k with
    | 0 => rfl
    | 1 => show 0 + 1 * b.val = b.val; omega
    | 2 => show 0 + 1 * j.val = j.val; omega

/-- Two stored halves fill the result. -/
theorem halves_apply (B : FVec Ideal S256x512 .f32) (w₀ w₁ : FVec Ideal S128x512 .f32) (r : Fin 256) (j : Fin 512) :
    (oM.access ro1 : View sig .tc _ _ _).write (Elt Ideal) ((oM.access ro0 : View sig .tc _ _ _).write (Elt Ideal) B w₀ Finset.univ) w₁ Finset.univ (ix2 r j)
      = if r.val / 128 = 0 then w₀ (ix2 ⟨r.val % 128, by omega⟩ j) else w₁ (ix2 ⟨r.val % 128, by omega⟩ j) := by
  split
  · next h =>
    refine (write_miss (oM.access ro1) _ _ _ fun x hx => ?_).trans (eq_of_heq (write_hit (oM.access ro0) _ _ (ix2 ⟨r.val % 128, by omega⟩ j) _ ?_))
    · have h0 : 128 + 1 * (x 0).val = r.val := congrArg (fun i : S256x512.Idx => (i 0).val) hx
      omega
    · funext k; apply Fin.ext
      match k with
      | 0 => show 0 + 1 * (r.val % 128) = r.val; omega
      | 1 => show 0 + 1 * j.val = j.val; omega
  · next h =>
    refine eq_of_heq (write_hit (oM.access ro1) _ _ (ix2 ⟨r.val % 128, by omega⟩ j) _ ?_)
    funext k; apply Fin.ext
    match k with
    | 0 => show 128 + 1 * (r.val % 128) = r.val; omega
    | 1 => show 0 + 1 * j.val = j.val; omega

/-! ## What the body reads, by coordinates -/

theorem xs_apply (c : Dev nD) (a : Fin 2) (b : Fin 128) (d : Fin 512) :
    xs m ρ c (ix3 a b d) = xstg m ρ c (ix2 ⟨a.val * 128 + b.val, by omega⟩ d) := by
  unfold xs
  unfold_payloads
  pointwise []
theorem rs_apply (c : Dev nD) (e : Fin 2) (d : Fin 512) : rs m ρ c (ix2 e d) = rstg m ρ c (ix2 d e) := by
  unfold rs
  unfold_payloads
  pointwise []
theorem w1a_apply (c : Dev nD) (d : Fin 512) (f : Fin 1024) : w1a m ρ c (ix3 0 d f) = w1stg m ρ c (ix3 0 d f) :=
  congrArg (w1stg m ρ c) (funext fun k => Fin.ext (match k with
    | 0 => rfl | 1 => show 0 + 1 * d.val = d.val by omega | 2 => show 0 + 1 * f.val = f.val by omega))
theorem w1b_apply (c : Dev nD) (d : Fin 512) (f : Fin 1024) : w1b m ρ c (ix3 0 d f) = w1stg m ρ c (ix3 1 d f) :=
  congrArg (w1stg m ρ c) (funext fun k => Fin.ext (match k with
    | 0 => rfl | 1 => show 0 + 1 * d.val = d.val by omega | 2 => show 0 + 1 * f.val = f.val by omega))
theorem w2a_apply (c : Dev nD) (f : Fin 1024) (j : Fin 512) : w2a m ρ c (ix3 0 f j) = w2stg m ρ c (ix3 0 f j) :=
  congrArg (w2stg m ρ c) (funext fun k => Fin.ext (match k with
    | 0 => rfl | 1 => show 0 + 1 * f.val = f.val by omega | 2 => show 0 + 1 * j.val = j.val by omega))
theorem w2b_apply (c : Dev nD) (f : Fin 1024) (j : Fin 512) : w2b m ρ c (ix3 0 f j) = w2stg m ρ c (ix3 1 f j) :=
  congrArg (w2stg m ρ c) (funext fun k => Fin.ext (match k with
    | 0 => rfl | 1 => show 0 + 1 * f.val = f.val by omega | 2 => show 0 + 1 * j.val = j.val by omega))

/-- Where a plane of a buffer of two planes lies. -/
theorem plane0_emb (b : Fin 128) (j : Fin 512) : rc0.toLoadRect.idx (ix3 0 b j) = ix3 0 b j :=
  funext fun k => Fin.ext (match k with
    | 0 => rfl | 1 => show 0 + 1 * b.val = b.val by omega | 2 => show 0 + 1 * j.val = j.val by omega)
theorem plane1_emb (b : Fin 128) (j : Fin 512) : rc1.toLoadRect.idx (ix3 0 b j) = ix3 1 b j :=
  funext fun k => Fin.ext (match k with
    | 0 => rfl | 1 => show 0 + 1 * b.val = b.val by omega | 2 => show 0 + 1 * j.val = j.val by omega)

/-- Plane 0 or 1 of a buffer of two planes, loaded: of the received rows and of the received half-results. -/
theorem plane0x_apply (B : B2 Ideal) (b : Fin 128) (j : Fin 512) : xrM.view.readAt (Elt Ideal) rc0.toLoadRect B (ix3 0 b j) = B (ix3 0 b j) :=
  congrArg B (plane0_emb b j)
theorem plane1x_apply (B : B2 Ideal) (b : Fin 128) (j : Fin 512) : xrM.view.readAt (Elt Ideal) rc1.toLoadRect B (ix3 0 b j) = B (ix3 1 b j) :=
  congrArg B (plane1_emb b j)
theorem plane0y_apply (B : B2 Ideal) (b : Fin 128) (j : Fin 512) : yrM.view.readAt (Elt Ideal) rc0.toLoadRect B (ix3 0 b j) = B (ix3 0 b j) :=
  congrArg B (plane0_emb b j)
theorem plane1y_apply (B : B2 Ideal) (b : Fin 128) (j : Fin 512) : yrM.view.readAt (Elt Ideal) rc1.toLoadRect B (ix3 0 b j) = B (ix3 1 b j) :=
  congrArg B (plane1_emb b j)

/-! ## The halves and the result -/

/-- Device `c`'s half of the result element `j` of a row `x`: its own two experts, weighted. -/
def halfAt (c : Dev nD) (x : Fin 512 → EReal) (j : Fin 512) : EReal :=
  half (zbit c) x (fun e d => rstg m ρ c (ix2 d e)) (fun e d => rstg m ρ (peer c) (ix2 d e))
    (fun d f => w1stg m ρ c (ix3 0 d f)) (fun d f => w1stg m ρ c (ix3 1 d f))
    (fun f => w2stg m ρ c (ix3 0 f j)) (fun f => w2stg m ρ c (ix3 1 f j))

/-- The device's own half, at an index. -/
theorem acc_apply (c : Dev nD) (r : Fin 256) (j : Fin 512) :
    acc m ρ c (ix2 r j) = halfAt m ρ c (fun d => xstg m ρ c (ix2 r d)) j := by
  unfold acc halfAt
  rw [partC_apply]
  simp only [xs_apply, rs_apply, w1a_apply, w1b_apply, w2a_apply, w2b_apply]
  have e : ∀ h, (⟨r.val / 128 * 128 + r.val % 128, h⟩ : Fin 256) = r := fun h => Fin.ext (by show r.val / 128 * 128 + r.val % 128 = r.val; omega)
  simp only [e]

/-- The two half-results a device sends, at an index: the same function of its peer's row. -/
theorem ya_apply (c : Dev nD) (b : Fin 128) (j : Fin 512) :
    ya m ρ c (ix3 0 b j) = halfAt m ρ c (fun d => xs m ρ (peer c) (ix3 0 b d)) j := by
  unfold ya halfAt
  rw [partA_apply]
  simp only [rs_apply, w1a_apply, w1b_apply, w2a_apply, w2b_apply]
  exact congrArg (fun x => half (zbit c) x _ _ _ _ _ _) (funext fun d => plane0x_apply _ b d)
theorem yb_apply (c : Dev nD) (b : Fin 128) (j : Fin 512) :
    yb m ρ c (ix3 0 b j) = halfAt m ρ c (fun d => xs m ρ (peer c) (ix3 1 b d)) j := by
  unfold yb halfAt
  rw [partB_apply]
  simp only [rs_apply, w1a_apply, w1b_apply, w2a_apply, w2b_apply]
  exact congrArg (fun x => half (zbit c) x _ _ _ _ _ _) (funext fun d => plane1x_apply _ b d)

/-- What a device sends back, at an index. -/
theorem ys_apply (c : Dev nD) (a : Fin 2) (b : Fin 128) (j : Fin 512) :
    ys m ρ c (ix3 a b j) = halfAt m ρ c (fun d => xs m ρ (peer c) (ix3 a b d)) j := by
  unfold ys
  rw [planes_apply]
  split
  · next h => subst h; exact ya_apply m ρ c b j
  · next h => obtain rfl : a = 1 := by omega
              exact yb_apply m ρ c b j

theorem pay55_apply (A : FVec Ideal S256x512 .f32) (B : Vec Ideal S1x128x512 .bf16) (b : Fin 128) (j : Fin 512) :
    k0_pay55 A B (ix2 b j) = A (ix2 ⟨b.val, by omega⟩ j) + B (ix3 0 b j) := by
  unfold_payloads
  pointwise []
theorem pay1_apply (A : FVec Ideal S256x512 .f32) (B : Vec Ideal S1x128x512 .bf16) (b : Fin 128) (j : Fin 512) :
    k0_pay1 A B (ix2 b j) = A (ix2 ⟨128 + b.val, by omega⟩ j) + B (ix3 0 b j) := by
  unfold_payloads
  pointwise []

/-- The result array at an index: the device's half of its own row plus the peer's half of the same row. -/
theorem outAt_apply (c : Dev nD) (r : Fin 256) (j : Fin 512) :
    outAt m ρ c (ix2 r j) = halfAt m ρ c (fun d => xstg m ρ c (ix2 r d)) j + halfAt m ρ (peer c) (fun d => xstg m ρ c (ix2 r d)) j := by
  have e : ∀ (a : Fin 2) (d : Fin 512), r.val / 128 = a.val →
      xs m ρ (peer (peer c)) (ix3 a ⟨r.val % 128, by omega⟩ d) = xstg m ρ c (ix2 r d) := fun a d h => by
    rw [xs_apply, peer_peer]
    exact congrArg (xstg m ρ c) (congrArg (fun k => ix2 k d) (Fin.ext (by show a.val * 128 + r.val % 128 = r.val; omega)))
  have ea : ∀ (k : Nat) (h : k < 256), k = r.val → acc m ρ c (ix2 ⟨k, h⟩ j) = acc m ρ c (ix2 r j) := fun k h hk => by
    subst hk; rfl
  unfold outAt
  rw [halves_apply]
  split
  · next h =>
    rw [pay55_apply, ea (r.val % 128) _ (by omega), acc_apply]
    rw [plane0y_apply, ys_apply]
    exact congrArg (fun x => halfAt m ρ c (fun d => xstg m ρ c (ix2 r d)) j + halfAt m ρ (peer c) x j) (funext fun d => e 0 d h)
  · next h =>
    rw [pay1_apply, ea (128 + r.val % 128) (by omega) (by omega), acc_apply]
    rw [plane1y_apply, ys_apply]
    exact congrArg (fun x => halfAt m ρ c (fun d => xstg m ρ c (ix2 r d)) j + halfAt m ρ (peer c) x j) (funext fun d => e 1 d (by show r.val / 128 = 1; omega))

end Cert.MoeRun
-- ==== Proof.Ref.lean ====
/- The reference at an index: two experts per row, chosen by a stable sort of the negated gates. -/
module

public import proofs.«01_k».proof.Proof.Row
public import Idealize.ShloMosaic.Lib.SortFacts
public import Idealize.ShloMosaic.Lib.Tactic.CleanTypes

@[expose] public section

set_option maxRecDepth 16384

noncomputable section

namespace Cert.MoeRef

open Cert.ReferenceIdeal Cert.ReferenceIdeal.Gen Cert.ReferenceIdeal.Value
open Idealize Idealize.ShloMosaic Idealize.ShloMosaic.TcCoe Idealize.ShloMosaic.StableHlo
open Cert.MoeRun (dotp ffn)

variable (V : Valuation τ sig (Elt Ideal))

/-- The operands. -/
def X : FVec Ideal S512x512 .bf16 := V (Proc.devRef .tc main_arg0)
def R : FVec Ideal S512x4 .bf16 := V (Proc.devRef .tc main_arg1)
def A : FVec Ideal S4x512x1024 .bf16 := V (Proc.devRef .tc main_arg2)
def B : FVec Ideal S4x1024x512 .bf16 := V (Proc.devRef .tc main_arg3)

/-- The gates of row `r`. -/
def gt (r : Fin 512) (e : Fin 4) : EReal := dotp (fun d => X V (ix2 r d)) (fun d => R V (ix2 d e))

theorem v4_apply (r : Fin 512) (e : Fin 4) : (res_main_v4 V : FVec Ideal S512x4 .f32) (ix2 r e) = gt V r e := by
  unfold res_main_v4 res_main_v0
  clean_types
  pointwise []
  rfl

theorem v5_apply (r : Fin 512) (e : Fin 4) : (res_main_v5 V : FVec Ideal S512x4 .f32) (ix2 r e) = - gt V r e := by
  unfold res_main_v5
  clean_types
  pointwise [v4_apply]

/-- The comparator of the sort compares the keys. -/
theorem comparator_eq (a b : EReal) (i j : BitVec 32) :
    comparator_f32_i32_d1 (F := Ideal) (a, i) (b, j) = BitVec.ofBool (decide (a < b)) := by
  unfold comparator_f32_i32_d1
  have e : ∀ x : EReal, (if x = 0 then (0 : EReal) else x) = x := fun x => by split <;> simp_all
  pointwise []
  simp only [ne_eq, not_true_eq_false, if_false, e]
  rfl

/-- The experts of a row in the order of the sort. -/
def order (g : Fin 4 → EReal) : Fin 4 → Fin 4 := sortedFrom fun a b => decide (-g a < -g b)

/-- A row of the sort's second result: its operand's row, permuted as the keys' row is. -/
theorem sort_row (x : FVec Ideal S512x4 .f32) (y : IVec S512x4 32) (r : Fin 512) (n : Fin 4) :
    (Host.sort2 S512x4 1 (comparator_f32_i32_d1 (F := Ideal)) x y).2 (ix2 r n)
      = y (ix2 r (sortedFrom (fun a b : Fin 4 => decide (x (ix2 r a) < x (ix2 r b))) n)) := by
  have al : ∀ k : Fin 4, (ix2 r n : S512x4.Idx).along 1 k = ix2 r k := fun k => funext fun a => match a with
    | 0 => rfl | 1 => rfl
  refine (congrArg y (al _)).trans (congrArg (fun f => y (ix2 r (sortedFrom f n))) (funext fun k => funext fun k' => ?_))
  have h : ∀ i i' : S512x4.Idx, i = ix2 r k → i' = ix2 r k' →
      (comparator_f32_i32_d1 (F := Ideal) (x i, y i) (x i', y i') == 1#1) = decide (x (ix2 r k) < x (ix2 r k')) := by
    rintro _ _ rfl rfl
    rw [comparator_eq]
    exact (by decide : ∀ b : Bool, (BitVec.ofBool b == 1#1) = b) _
  exact h _ _ (al k) (al k')

/-- Entry `i` of row `r` of the sorted positions. -/
theorem v7_apply (r : Fin 512) (i : Fin 2) :
    (res_main_v7 V : IVec S512x2 32) (ix2 r i) = BitVec.ofNat 32 (order (gt V r) (i.castLE (by decide))).val := by
  have hk : ∀ x : FVec Ideal S512x4 .f32, (∀ e, x (ix2 r e) = -gt V r e) →
      (fun a b : Fin 4 => decide (x (ix2 r a) < x (ix2 r b))) = fun a b => decide (-gt V r a < -gt V r b) :=
    fun x h => funext fun a => funext fun b => by rw [h, h]
  unfold res_main_v7
  clean_types
  have e := sort_row (res_main_v5 V) (res_main_call0_v0 V) r (i.castLE (by decide))
  rw [hk (res_main_v5 V) (v5_apply V r)] at e
  refine Eq.trans ?_ e
  refine congrArg (Host.sort2 S512x4 1 (comparator_f32_i32_d1 (F := Ideal)) (res_main_v5 V) (res_main_call0_v0 V)).2 (funext fun a => Fin.ext ?_)
  match a with
  | 0 => show 0 + r.val = r.val; omega
  | 1 => show 0 + i.val = i.val; omega

/-- The gather of one entry per row and column reads the row at its index. -/
theorem gather_row (x : FVec Ideal S512x4 .f32) (idx : IVec S512x2x1 32) (r : Fin 512) (i : Fin 2) (k : Fin 4)
    (h : idx (ix3 r i 0) = BitVec.ofNat 32 k.val) :
    Host.gather gather_S512x4_S512x2x1_S512x2_n_1_0_0_1_2_11 x idx (ix2 r i) = x (ix2 r k) := by
  set D := gather_S512x4_S512x2x1_S512x2_n_1_0_0_1_2_11 with hD
  have hs : ∀ c, D.siIdx (ix2 r i) c = ix3 r i 0 := fun c => funext fun b => Fin.ext (match b with
    | 0 => rfl | 1 => rfl | 2 => by show c.val = 0; have : c.val < 1 := c.isLt; omega)
  refine congrArg x (funext fun a => Fin.ext ?_)
  show D.start (ix2 r i) idx a + D.batchCoord (ix2 r i) a + D.offCoord (ix2 r i) a = _
  rw [GatherDims.offCoord_eq_zero _ _ _ (by revert a; decide)]
  match a with
  | 0 =>
    rw [GatherDims.start_batching _ _ _ _ (List.mem_singleton.mpr rfl)]
    show 0 + r.val + 0 = r.val
    omega
  | 1 =>
    rw [GatherDims.batchCoord_eq_zero _ _ _ (by decide)]
    unfold GatherDims.start
    rw [dif_pos (by decide), hs, h]
    show min (BitVec.ofNat 32 k.val).toInt.toNat 3 + 0 + 0 = k.val
    have : ∀ k : Fin 4, min (BitVec.ofNat 32 k.val).toInt.toNat 3 + 0 + 0 = k.val := by decide
    exact this k

/-- The wrapped entry is the entry. -/
theorem call1_v5_apply (r : Fin 512) (i : Fin 2) :
    (res_main_call1_v5 V : IVec S512x2x1 32) (ix3 r i 0) = BitVec.ofNat 32 (order (gt V r) (i.castLE (by decide))).val := by
  unfold res_main_call1_v5
  clean_types
  pointwise [v7_apply]
  generalize order (gt V r) _ = k
  revert k; decide

/-- The chosen gates. -/
theorem v8_apply (r : Fin 512) (i : Fin 2) :
    (res_main_v8 V : FVec Ideal S512x2 .f32) (ix2 r i) = gt V r (order (gt V r) (i.castLE (by decide))) := by
  unfold res_main_v8
  clean_types
  pointwise []
  rw [gather_row _ _ r i _ (call1_v5_apply V r i), v4_apply]
  have h : ∀ k : Fin 4, Finset.fold IntOp.andi (1#1) (fun _ : Fin 1 => IntOp.andi (IntOp.cmpi CmpIPredicate.sge (BitVec.ofNat 32 k.val) 0#32)
      (IntOp.cmpi CmpIPredicate.sle (BitVec.ofNat 32 k.val) 3#32)) Finset.univ = 1#1 := by decide
  have e : ∀ x : Fin 1, (res_main_call1_v5 V : IVec S512x2x1 32) (ix3 r i x) = BitVec.ofNat 32 (order (gt V r) (i.castLE (by decide))).val :=
    fun x => by rw [Subsingleton.elim x 0]; exact call1_v5_apply V r i
  have e' : (fun x : Fin 1 => IntOp.andi (IntOp.cmpi CmpIPredicate.sge ((res_main_call1_v5 V : IVec S512x2x1 32) (ix3 r i x)) 0#32)
      (IntOp.cmpi CmpIPredicate.sle ((res_main_call1_v5 V : IVec S512x2x1 32) (ix3 r i x)) 3#32)) = _ := funext fun x => by rw [e x]
  refine Eq.trans (congrArg (fun c => Scalar.select c _ _) ((congrArg (fun f => Finset.fold IntOp.andi (1#1) f Finset.univ) e').trans (h _))) ?_
  rfl

/-- Two gates' weights, as the reference forms them. -/
def top2 (a : Fin 2 → EReal) : EReal := Finset.fold max (Ideal.ofBits FTy.f32 4286578688#32) a Finset.univ

theorem v13_apply (r : Fin 512) (i : Fin 2) :
    (res_main_v13 V : FVec Ideal S512x2 .f32) (ix2 r i)
      = Ideal.exp (gt V r (order (gt V r) (i.castLE (by decide))) - top2 fun x => gt V r (order (gt V r) (x.castLE (by decide)))) := by
  unfold res_main_v13
  clean_types
  pointwise [v8_apply]
  rfl

def soft (a : Fin 2 → EReal) (i : Fin 2) : EReal := Ideal.div (Ideal.exp (a i - top2 a)) (∑ x, Ideal.exp (a x - top2 a))

/-- The normalised weights. -/
theorem v17_apply (r : Fin 512) (i : Fin 2) :
    (res_main_v17 V : FVec Ideal S512x2 .f32) (ix2 r i) = soft (fun x => gt V r (order (gt V r) (x.castLE (by decide)))) i := by
  unfold res_main_v17
  clean_types
  pointwise [v13_apply]
  rfl

/-- One expert's output element for a row. -/
def fo (r j : Fin 512) (e : Fin 4) : EReal := ffn (fun d => X V (ix2 r d)) (fun d f => A V (ix3 e d f)) (fun f => B V (ix3 e f j))

/-- The reference's summand for choice `i` and expert `e`. -/
def term (r j : Fin 512) (i : Fin 2) (e : Fin 4) : EReal :=
  Scalar.select (IntOp.cmpi .eq (BitVec.ofNat 32 (order (gt V r) (i.castLE (by decide))).val) (BitVec.ofNat 32 e.val))
    (fo V r j e * soft (fun x => gt V r (order (gt V r) (x.castLE (by decide)))) i) 0

theorem v90_apply (r j : Fin 512) :
    (res_main_v90 V : FVec Ideal S512x512 .f32) (ix2 r j) = term V r j 0 0 + term V r j 0 1 + term V r j 0 2 + term V r j 0 3 := by
  unfold res_main_v90 res_main_v0 res_main_v2 res_main_v3
  clean_types
  pointwise [v7_apply, v17_apply, id_eq]
  rfl

theorem v162_apply (r j : Fin 512) :
    (res_main_v162 V : FVec Ideal S512x512 .f32) (ix2 r j) = term V r j 0 0 + term V r j 0 1 + term V r j 0 2 + term V r j 0 3
      + term V r j 1 0 + term V r j 1 1 + term V r j 1 2 + term V r j 1 3 := by
  unfold res_main_v162 res_main_v0 res_main_v2 res_main_v3
  clean_types
  pointwise [v7_apply, v17_apply, v90_apply, id_eq]
  rfl

end Cert.MoeRef
-- ==== Proof.Blocks.lean ====
/- What a device's blocks hold of the reference's arrays; what the finiteness predicate says of an element; the gates are real. -/
module

public import proofs.«01_k».proof.Proof.Value
public import proofs.«01_k».proof.Proof.Ref

@[expose] public section

set_option maxRecDepth 16384

noncomputable section

namespace Cert.MoeRun

open Cert.KernelIdeal Cert.KernelIdeal.Gen
open Idealize Idealize.ShloMosaic

/-! ## Blocks at an index -/

/-- The row of the whole `x` that is row `r` of device `c`'s block. -/
def rowOf (c : Dev nD) (r : Fin 256) : Fin 512 := ⟨c.val % 2 * 256 + r.val, by omega⟩

/-- The expert that is expert `e` of device `c`'s pair. -/
def expertOf (c : Dev nD) (e : Fin 2) : Fin 4 := ⟨c.val % 2 * 2 + e.val, by omega⟩

/-- A device's block coordinate along a dimension cut along the last mesh axis is its own parity. -/
theorem coord_last : ∀ c : Dev nD, Layout.meshLin [2, 2, 2] c.val [2] = c.val % 2 := by decide

section
variable {α : Type} (c : Dev nD)

theorem rows_block (v : Shape.Idx ⟨2, ![512, 512]⟩ → α) (r : Fin 256) (d : Fin 512) :
    Layout.blockN ⟨2, ![256, 512]⟩ ⟨2, ![512, 512]⟩ (Layout.meshBlock [2, 2, 2] ![[2], []] c) v (by decide) (ix2 r d)
      = v (ix2 (rowOf c r) d) := by
  refine congrArg v (funext fun b => Fin.ext ?_)
  rw [Layout.TilesN.idx_val, Layout.meshBlock_val]
  match b with
  | ⟨0, _⟩ => exact congrArg (fun k => k * 256 + r.val) (coord_last c)
  | ⟨1, _⟩ => exact (congrArg (· + d.val) (Nat.zero_mul 512)).trans (Nat.zero_add d.val)

theorem columns_block (v : Shape.Idx ⟨2, ![512, 4]⟩ → α) (d : Fin 512) (e : Fin 2) :
    Layout.blockN ⟨2, ![512, 2]⟩ ⟨2, ![512, 4]⟩ (Layout.meshBlock [2, 2, 2] ![[], [2]] c) v (by decide) (ix2 d e)
      = v (ix2 d (expertOf c e)) := by
  refine congrArg v (funext fun b => Fin.ext ?_)
  rw [Layout.TilesN.idx_val, Layout.meshBlock_val]
  match b with
  | ⟨0, _⟩ => exact (congrArg (· + d.val) (Nat.zero_mul 512)).trans (Nat.zero_add d.val)
  | ⟨1, _⟩ => exact congrArg (fun k => k * 2 + e.val) (coord_last c)

/-- The two weight arrays are cut alike, whatever the sizes `p`, `q` of a plane. -/
theorem planes_block (p q : Nat) (v : Shape.Idx ⟨3, ![4, p, q]⟩ → α)
    (h : Layout.TilesN ⟨3, ![2, p, q]⟩ ⟨3, ![4, p, q]⟩ fun b => Layout.cutSize [2, 2, 2] ((![[2], [], []] : Fin 3 → List Nat) b))
    (e : Fin 2) (a : Fin p) (f : Fin q) :
    Layout.blockN ⟨3, ![2, p, q]⟩ ⟨3, ![4, p, q]⟩ (Layout.meshBlock [2, 2, 2] ![[2], [], []] c) v h (ix3 e a f)
      = v (ix3 (expertOf c e) a f) := by
  refine congrArg v (funext fun b => Fin.ext ?_)
  rw [Layout.TilesN.idx_val, Layout.meshBlock_val]
  match b with
  | ⟨0, _⟩ => exact congrArg (fun k => k * 2 + e.val) (coord_last c)
  | ⟨1, _⟩ => exact (congrArg (· + a.val) (Nat.zero_mul p)).trans (Nat.zero_add a.val)
  | ⟨2, _⟩ => exact (congrArg (· + f.val) (Nat.zero_mul q)).trans (Nat.zero_add f.val)

end

/-! ## The pairs of experts of a device and its peer -/

/-- A device at coordinate zero has the first two experts and its peer the last two, or the other way round. -/
theorem pairs : ∀ c : Dev nD,
    (zbit c = 1#1 ∧ expertOf c 0 = 0 ∧ expertOf c 1 = 1 ∧ expertOf (peer c) 0 = 2 ∧ expertOf (peer c) 1 = 3)
    ∨ (zbit c = 0#1 ∧ expertOf c 0 = 2 ∧ expertOf c 1 = 3 ∧ expertOf (peer c) 0 = 0 ∧ expertOf (peer c) 1 = 1) := by decide

/-- A device's half is its own two experts' outputs, each times that expert's share of all four gates. -/
theorem half_eq (c : Dev nD) (x : Fin 512 → EReal) (k : Fin 4 → Fin 512 → EReal) (A : Fin 4 → Fin 512 → Fin 1024 → EReal)
    (B : Fin 4 → Fin 1024 → EReal) :
    half (zbit c) x (fun e => k (expertOf c e)) (fun e => k (expertOf (peer c) e)) (A (expertOf c 0)) (A (expertOf c 1))
        (B (expertOf c 0)) (B (expertOf c 1))
      = ffn x (A (expertOf c 0)) (B (expertOf c 0)) * Ideal.div (wt (fun e => dotp x (k e)) (expertOf c 0)) (denom fun e => dotp x (k e))
        + ffn x (A (expertOf c 1)) (B (expertOf c 1)) * Ideal.div (wt (fun e => dotp x (k e)) (expertOf c 1)) (denom fun e => dotp x (k e)) := by
  have hc : cols (zbit c) x (fun e => k (expertOf c e)) (fun e => k (expertOf (peer c) e)) = fun e => dotp x (k e) := by
    rcases pairs c with ⟨h, h0, h1, h2, h3⟩ | ⟨h, h0, h1, h2, h3⟩ <;> funext e <;> fin_cases e <;>
      simp [cols, Scalar.select, h, h0, h1, h2, h3]
  unfold half
  rw [hc]
  rcases pairs c with ⟨h, h0, h1, _, _⟩ | ⟨h, h0, h1, _, _⟩ <;> simp [Scalar.select, h, h0, h1]

/-- A sum over a device's pair plus one over its peer's pair is the sum over all experts. -/
theorem pairs_sum (c : Dev nD) (y : Fin 4 → EReal) :
    (y (expertOf c 0) + y (expertOf c 1)) + (y (expertOf (peer c) 0) + y (expertOf (peer c) 1)) = ∑ e, y e := by
  rw [Fin.sum_univ_four]
  rcases pairs c with ⟨_, h0, h1, h2, h3⟩ | ⟨_, h0, h1, h2, h3⟩ <;> rw [h0, h1, h2, h3] <;> abel

/-! ## Finiteness -/

/-- The value is a real number. -/
def IsReal (x : EReal) : Prop := ∃ a : ℝ, x = a

theorem real_sum {n : Nat} (f : Fin n → EReal) (h : ∀ i, IsReal (f i)) : IsReal (∑ i, f i) :=
  Finset.sum_induction f IsReal (fun _ _ ⟨a, ha⟩ ⟨b, hb⟩ => ⟨a + b, by rw [ha, hb, EReal.coe_add]⟩) ⟨0, rfl⟩ fun i _ => h i

/-- A gate of real operands is real. -/
theorem real_dotp (x k : Fin 512 → EReal) (hx : ∀ d, IsReal (x d)) (hk : ∀ d, IsReal (k d)) : IsReal (dotp x k) :=
  real_sum _ fun d => by
    obtain ⟨a, ha⟩ := hx d
    obtain ⟨b, hb⟩ := hk d
    exact ⟨a * b, by rw [ha, hb, EReal.coe_mul]⟩

/-- What the predicate's word for an element says: it is below +∞ and above −∞. -/
theorem real_of_word (x : EReal)
    (h : IntOp.andi (Ideal.cmp .olt x (Ideal.ofBits .f32 0x7F800000#32)) (Ideal.cmp .ogt x (Ideal.ofBits .f32 0xFF800000#32)) = 1#1) :
    IsReal x := by
  have ht : Ideal.ofBits .f32 0x7F800000#32 = (⊤ : EReal) := by simp [Ideal.ofBits, Ideal.ieee]
  have hb : Ideal.ofBits .f32 0xFF800000#32 = (⊥ : EReal) := by simp [Ideal.ofBits, Ideal.ieee]
  rw [ht, hb] at h
  induction x using EReal.rec with
  | bot => exact absurd h (by simp [Ideal.cmp, IntOp.andi])
  | coe a => exact ⟨a, rfl⟩
  | top => exact absurd h (by simp [Ideal.cmp, IntOp.andi])

/-- The predicate's side conditions hold. -/
theorem preFacts : Cert.Pre_finite_gating_KernelIdeal.Facts := ⟨by decide, by decide, by decide⟩
instance : Cert.Pre_finite_gating_KernelIdeal.Facts := preFacts

section
variable (x : FVec Ideal S256x512 .bf16) (k : FVec Ideal S512x2 .bf16) (A : FVec Ideal S2x512x1024 .bf16) (B : FVec Ideal S2x1024x512 .bf16)

/-- The predicate makes every element of a block of `x` real. -/
theorem real_x (h : (Cert.Pre_finite_gating_KernelIdeal.fn (F := Ideal) x k A B).1 = fun _ => 1#1) (r : Fin 256) (d : Fin 512) :
    IsReal (x (ix2 r d)) := by
  refine real_of_word _ (Eq.trans ?_ (congrFun h (ix2 r d)))
  symm
  unfold Cert.Pre_finite_gating_KernelIdeal.fn
  pointwise []

/-- The predicate makes every element of a block of the router real. -/
theorem real_k (h : (Cert.Pre_finite_gating_KernelIdeal.fn (F := Ideal) x k A B).2 = fun _ => 1#1) (d : Fin 512) (e : Fin 2) :
    IsReal (k (ix2 d e)) := by
  refine real_of_word _ (Eq.trans ?_ (congrFun h (ix2 d e)))
  symm
  unfold Cert.Pre_finite_gating_KernelIdeal.fn
  pointwise []

end

end Cert.MoeRun

end
-- ==== Proof.Top2.lean ====
/- The choice of two experts: the body's ranks and the reference's sort choose alike. -/
module

public import proofs.«01_k».proof.Proof.Ref

@[expose] public section

noncomputable section

namespace Cert.MoeTop

open Idealize Idealize.ShloMosaic
open Cert.MoeRun (bitW below2 top4 wt denom)
open Cert.MoeRef (order top2 soft)

/-! ## A stable sort of positions looks at pairs in one direction only -/

/-- Two relations that agree on later-against-earlier sort an ascending list alike. -/
theorem stableSort_lower {n : Nat} (S T : Fin n → Fin n → Bool) (h : ∀ a b, a < b → S b a = T b a) (l : List (Fin n))
    (hl : l.Pairwise (· < ·)) : stableSort S l = stableSort T l := by
  induction l with
  | nil => rfl
  | cons a l ih =>
    have hp := List.pairwise_cons.mp hl
    show insertBefore S a (stableSort S l) = insertBefore T a (stableSort T l)
    rw [ih hp.2]
    exact insertBefore_congr S T a _ fun b hb => h a b (hp.1 b ((perm_stableSort T l).mem_iff.mp hb))

theorem sortedFrom_lower {n : Nat} (S T : Fin n → Fin n → Bool) (h : ∀ a b, a < b → S b a = T b a) : sortedFrom S = sortedFrom T := by
  have e : sortPositions n S = sortPositions n T := stableSort_lower S T h _ (List.pairwise_lt_finRange n)
  funext k
  unfold sortedFrom
  exact List.get_of_eq e _

/-- A strict total order's sorted positions ascend in it. -/
theorem sortedFrom_ascends {n : Nat} (T : Fin n → Fin n → Bool) (irr : ∀ a, T a a = false) (asym : ∀ a b, T a b = true → T b a = false)
    (tot : ∀ a b, a ≠ b → T a b = false → T b a = true) (tr : ∀ a b c, T a b = false → T b c = false → T a c = false) (i j : Fin n) :
    T (sortedFrom T i) (sortedFrom T j) = decide (i < j) := by
  have up : ∀ i j, i < j → T (sortedFrom T i) (sortedFrom T j) = true := fun i j hij =>
    tot _ _ (fun e => (ne_of_gt hij) (sortedFrom_injective T e)) (sortedFrom_noInversion T T asym (fun _ _ h => h) tr i j hij)
  rcases lt_trichotomy i j with h | h | h
  · rw [up i j h, decide_eq_true h]
  · subst h; rw [irr, decide_eq_false (lt_irrefl i)]
  · rw [asym _ _ (up j i h), decide_eq_false (not_lt_of_gt h)]

/-! ## Four gates in the order of the sort -/

variable (g : Fin 4 → EReal)

/-- Expert `a` comes before expert `b`: its gate is greater, or equal with `a` the lower number. -/
def ahead (a b : Fin 4) : Bool := if a < b then decide (g b ≤ g a) else decide (g b < g a)

theorem ahead_ge {a b : Fin 4} (h : ahead g a b = true) : g b ≤ g a := by
  unfold ahead at h
  split at h
  · exact of_decide_eq_true h
  · exact le_of_lt (of_decide_eq_true h)

theorem not_ahead_iff (a b : Fin 4) : ahead g a b = false ↔ g a < g b ∨ (g a = g b ∧ b ≤ a) := by
  unfold ahead
  split
  · next h => simp only [decide_eq_false_iff_not, not_le, not_le_of_gt h, and_false, or_false]
  · next h => simp only [decide_eq_false_iff_not, not_lt, not_lt.mp h, and_true, le_iff_lt_or_eq]

theorem ahead_iff (a b : Fin 4) : ahead g a b = true ↔ g b < g a ∨ (g a = g b ∧ a < b) := by
  unfold ahead
  split
  · next h => exact decide_eq_true_iff.trans (le_iff_lt_or_eq.trans (or_congr_right ⟨fun e => ⟨e.symm, h⟩, fun e => e.1.symm⟩))
  · next h => simp only [decide_eq_true_eq, h, and_false, or_false]

theorem order_eq : order g = sortedFrom (ahead g) := by
  unfold order
  refine sortedFrom_lower _ _ fun a b h => ?_
  unfold ahead
  rw [if_neg (not_lt_of_gt h)]
  simp only [EReal.neg_lt_neg_iff]

/-- The order's experts are ahead of each other as their places are. -/
theorem ahead_order (i j : Fin 4) : ahead g (order g i) (order g j) = decide (i < j) := by
  rw [order_eq]
  refine sortedFrom_ascends (ahead g) (fun a => ?_) (fun a b h => ?_) (fun a b hab h => ?_) (fun a b c h h' => ?_) i j
  · exact (not_ahead_iff g a a).mpr (Or.inr ⟨rfl, le_refl a⟩)
  · rcases (ahead_iff g a b).mp h with h | ⟨h, h'⟩
    · exact (not_ahead_iff g b a).mpr (Or.inl h)
    · exact (not_ahead_iff g b a).mpr (Or.inr ⟨h.symm, le_of_lt h'⟩)
  · rcases (not_ahead_iff g a b).mp h with h | ⟨h, h'⟩
    · exact (ahead_iff g b a).mpr (Or.inl h)
    · exact (ahead_iff g b a).mpr (Or.inr ⟨h.symm, lt_of_le_of_ne h' (Ne.symm hab)⟩)
  · rcases (not_ahead_iff g a b).mp h with h | ⟨h, hn⟩ <;> rcases (not_ahead_iff g b c).mp h' with h' | ⟨h', hn'⟩
    · exact (not_ahead_iff g a c).mpr (Or.inl (lt_trans h h'))
    · exact (not_ahead_iff g a c).mpr (Or.inl (h' ▸ h))
    · exact (not_ahead_iff g a c).mpr (Or.inl (h ▸ h'))
    · exact (not_ahead_iff g a c).mpr (Or.inr ⟨h.trans h', le_trans hn' hn⟩)

theorem order_bijective : Function.Bijective (order g) :=
  ⟨sortedFrom_injective _, sortedFrom_surjective _⟩

/-! ## The body's ranks -/

/-- The body's guarded value, its count taken in the naturals. -/
theorem below2_eq (p q r : Prop) [Decidable p] [Decidable q] [Decidable r] (v : EReal) :
    below2 p q r v = if (if p then 1 else 0) + (if q then 1 else 0) + (if r then 1 else 0) < 2 then v else 0 := by
  unfold below2 bitW
  by_cases hp : p <;> by_cases hq : q <;> by_cases hr : r <;> simp only [hp, hq, hr, if_true, if_false] <;> rfl

/-- The number of experts ahead of an expert. -/
def rank (e : Fin 4) : Nat := ∑ f, if ahead g f e = true then 1 else 0

/-- The body's weight of an expert: the exponential where fewer than two experts are ahead of it. -/
theorem wt_eq (e : Fin 4) : wt g e = if rank g e < 2 then Ideal.exp (g e - top4 g) else 0 := by
  unfold rank ahead
  rw [Fin.sum_univ_four]
  match e with
  | 0 => exact (below2_eq _ _ _ _).trans (by simp)
  | 1 => exact (below2_eq _ _ _ _).trans (by simp)
  | 2 => exact (below2_eq _ _ _ _).trans (by simp)
  | 3 => exact (below2_eq _ _ _ _).trans (by simp)

/-- The expert at place `k` of the order has `k` experts ahead of it. -/
theorem rank_order (k : Fin 4) : rank g (order g k) = k.val := by
  unfold rank
  rw [← (order_bijective g).sum_comp]
  simp only [ahead_order, decide_eq_true_eq]
  revert k; decide

/-- The greatest gate is the first of the order. -/
theorem top4_eq : top4 g = g (order g 0) := by
  have le : ∀ f, g f ≤ g (order g 0) := fun f => by
    obtain ⟨k, rfl⟩ := (order_bijective g).2 f
    by_cases h : k = 0
    · rw [h]
    · exact ahead_ge g (by rw [ahead_order]; exact decide_eq_true (Fin.pos_of_ne_zero h))
  have ge : ∀ f, g f ≤ top4 g := fun f => match f with
    | 0 => le_trans (le_max_left _ _) (le_max_left _ _)
    | 1 => le_trans (le_max_right _ _) (le_max_left _ _)
    | 2 => le_trans (le_max_left _ _) (le_max_right _ _)
    | 3 => le_trans (le_max_right _ _) (le_max_right _ _)
  exact le_antisymm (max_le (max_le (le 0) (le 1)) (max_le (le 2) (le 3))) (ge _)

/-- The weight at a place of the order. -/
theorem wt_order (k : Fin 4) : wt g (order g k) = if k.val < 2 then Ideal.exp (g (order g k) - g (order g 0)) else 0 := by
  rw [wt_eq, rank_order, top4_eq]

/-- The sum of the weights is that of the two chosen. -/
theorem denom_eq : denom g = ∑ i : Fin 2, Ideal.exp (g (order g (i.castLE (by decide))) - g (order g 0)) := by
  have h : denom g = ∑ e, wt g e := (Fin.sum_univ_four _).symm
  rw [h, ← (order_bijective g).sum_comp, Fin.sum_univ_four, Fin.sum_univ_two, wt_order, wt_order, wt_order, wt_order]
  simp

/-- The reference's greatest of the two chosen is the first. -/
theorem top2_eq : top2 (fun i => g (order g (i.castLE (by decide)))) = g (order g 0) := by
  have h : Ideal.ofBits .f32 0xFF800000#32 = ⊥ := by simp [Ideal.ofBits, Ideal.ieee]
  have h1 : g (order g 1) ≤ g (order g 0) := ahead_ge g (by rw [ahead_order]; rfl)
  have hu : (Finset.univ : Finset (Fin 2)) = insert 0 {1} := rfl
  unfold top2
  rw [h, hu, Finset.fold_insert (by decide), Finset.fold_singleton]
  exact (congrArg (max _) (max_bot_right _)).trans (max_eq_left h1)

/-- The reference's weights over the body's sum. -/
theorem soft_eq (i : Fin 2) : soft (fun i => g (order g (i.castLE (by decide)))) i = Ideal.div (wt g (order g (i.castLE (by decide)))) (denom g) := by
  unfold soft
  rw [top2_eq, denom_eq, wt_order, if_pos]
  exact i.isLt

/-- With a finite first gate the sum is not zero. -/
theorem denom_ne_zero (a : ℝ) (h : g (order g 0) = a) : denom g ≠ 0 := by
  have nn : ∀ x : EReal, 0 ≤ Ideal.exp x := fun x => by
    induction x using EReal.rec with
    | bot => exact le_refl _
    | top => exact le_top
    | coe r => exact EReal.coe_nonneg.mpr (Real.exp_pos r).le
  have one : Ideal.exp (g (order g 0) - g (order g 0)) = 1 := by
    rw [h, ← EReal.coe_sub, sub_self]
    exact (congrArg _ Real.exp_zero : ((Real.exp 0 : ℝ) : EReal) = ((1 : ℝ) : EReal))
  rw [denom_eq, Fin.sum_univ_two]
  exact ne_of_gt (lt_of_lt_of_le (b := 1) zero_lt_one (le_trans (le_of_eq one.symm) (le_add_of_nonneg_right (nn _))))

/-- The word comparison of two expert numbers. -/
theorem expert_eq : ∀ a e : Fin 4, IntOp.cmpi .eq (BitVec.ofNat 32 a.val) (BitVec.ofNat 32 e.val) = BitVec.ofBool (decide (a = e)) := by decide

/-- An expert's weighted output is the sum of the reference's two summands for it. -/
theorem weighted (a : ℝ) (h : g (order g 0) = a) (y : EReal) (e : Fin 4) :
    y * Ideal.div (wt g e) (denom g) = ∑ i : Fin 2, Scalar.select
      (IntOp.cmpi .eq (BitVec.ofNat 32 (order g (i.castLE (by decide))).val) (BitVec.ofNat 32 e.val))
      (y * soft (fun x => g (order g (x.castLE (by decide)))) i) 0 := by
  obtain ⟨k, rfl⟩ := (order_bijective g).2 e
  have hs : ∀ i : Fin 2, Scalar.select (IntOp.cmpi .eq (BitVec.ofNat 32 (order g (i.castLE (by decide))).val) (BitVec.ofNat 32 (order g k).val))
      (y * soft (fun x => g (order g (x.castLE (by decide)))) i) 0 = if i.val = k.val then y * Ideal.div (wt g (order g k)) (denom g) else 0 := fun i => by
    rw [expert_eq, soft_eq]
    by_cases hik : i.val = k.val
    · obtain rfl : i.castLE (by decide) = k := Fin.ext hik
      rw [decide_eq_true rfl, if_pos hik]; rfl
    · rw [decide_eq_false fun e => hik (congrArg Fin.val ((order_bijective g).1 e)), if_neg hik]; rfl
  simp only [hs]
  by_cases hk : k.val < 2
  · rw [Fin.sum_univ_two]
    rcases (by omega : k.val = 0 ∨ k.val = 1) with h' | h' <;> simp [h']
  · have z : Ideal.div (wt g (order g k)) (denom g) = 0 := by
      rw [wt_order, if_neg hk]
      unfold Ideal.div
      rw [if_neg (denom_ne_zero g a h), zero_mul]
    simp [z]

end Cert.MoeTop
-- ==== Proof.Algebraic.lean ====
/- The kernel's result against the reference's: each device ends with its block of the reference's result. -/
module

public import proofs.«01_k».proof.Proof.Blocks
public import proofs.«01_k».proof.Proof.Top2

@[expose] public section

set_option maxRecDepth 16384

noncomputable section

namespace Cert.MoeRun

open Cert.KernelIdeal Cert.KernelIdeal.Gen
open Idealize Idealize.ShloMosaic Idealize.ShloMosaic.TcCoe
open Cert.MoeRef (X R A B gt order fo term)

section
variable (V : Valuation Cert.ReferenceIdeal.τ Cert.ReferenceIdeal.sig (Elt Ideal))

/-- The reference at an index, its eight terms gathered by expert: every expert's output times that expert's share. -/
theorem reference_apply (r j : Fin 512) (h : ∀ e, IsReal (gt V r e)) :
    (Cert.ReferenceIdeal.Value.res_main_v162 V : FVec Ideal Cert.ReferenceIdeal.S512x512 .f32) (ix2 r j)
      = ∑ e, fo V r j e * Ideal.div (wt (gt V r) e) (denom (gt V r)) := by
  obtain ⟨a, ha⟩ := h (order (gt V r) 0)
  have hw : ∀ e, fo V r j e * Ideal.div (wt (gt V r) e) (denom (gt V r)) = term V r j 0 e + term V r j 1 e := fun e =>
    (Cert.MoeTop.weighted (gt V r) a ha (fo V r j e) e).trans (Fin.sum_univ_two _)
  rw [Cert.MoeRef.v162_apply, Fin.sum_univ_four, hw, hw, hw, hw]
  abel

variable (m : (ℓ : Loc nD τ sig) → Buf (Elt Ideal) ℓ) (ρ : Dev nD → PrngReg)

/-- Every device's operands are its blocks of the reference's. -/
structure Agrees : Prop where
  x : ∀ c r d, xstg m ρ c (ix2 r d) = X V (ix2 (rowOf c r) d)
  k : ∀ c d e, rstg m ρ c (ix2 d e) = R V (ix2 d (expertOf c e))
  a : ∀ c e d f, w1stg m ρ c (ix3 e d f) = A V (ix3 (expertOf c e) d f)
  b : ∀ c e f j, w2stg m ρ c (ix3 e f j) = B V (ix3 (expertOf c e) f j)

variable {V m ρ}

/-- A device's half of a row of the reference's `x`: its own two experts' outputs, each times its share. -/
theorem halfAt_eq (hA : Agrees V m ρ) (c : Dev nD) (r j : Fin 512) :
    halfAt m ρ c (fun d => X V (ix2 r d)) j
      = fo V r j (expertOf c 0) * Ideal.div (wt (gt V r) (expertOf c 0)) (denom (gt V r))
        + fo V r j (expertOf c 1) * Ideal.div (wt (gt V r) (expertOf c 1)) (denom (gt V r)) := by
  unfold halfAt
  simp only [hA.k, hA.a, hA.b]
  exact half_eq c (fun d => X V (ix2 r d)) (fun e d => R V (ix2 d e)) (fun e d f => A V (ix3 e d f)) (fun e f => B V (ix3 e f j))

/-- The gates of a device's rows are real where all devices' blocks of `x` and of the router are. -/
theorem real_gates (hA : Agrees V m ρ) (hx : ∀ c r d, IsReal (xstg m ρ c (ix2 r d))) (hk : ∀ c d e, IsReal (rstg m ρ c (ix2 d e)))
    (c : Dev nD) (r : Fin 256) (e : Fin 4) : IsReal (gt V (rowOf c r) e) := by
  refine real_dotp _ _ (fun d => hA.x c r d ▸ hx c r d) fun d => ?_
  have hk' : ∀ (c : Dev nD) (i : Fin 2), IsReal (R V (ix2 d (expertOf c i))) := fun c i => hA.k c d i ▸ hk c d i
  have hcover : ∃ (c : Dev nD) (i : Fin 2), expertOf c i = e := by revert e; decide
  obtain ⟨c', i, rfl⟩ := hcover
  exact hk' c' i

/-- The result of a device is its block of rows of the reference's result. -/
theorem out_eq (hA : Agrees V m ρ) (hx : ∀ c r d, IsReal (xstg m ρ c (ix2 r d))) (hk : ∀ c d e, IsReal (rstg m ρ c (ix2 d e)))
    (c : Dev nD) (r : Fin 256) (j : Fin 512) :
    outAt m ρ c (ix2 r j)
      = (Cert.ReferenceIdeal.Value.res_main_v162 V : FVec Ideal Cert.ReferenceIdeal.S512x512 .f32) (ix2 (rowOf c r) j) := by
  rw [outAt_apply, reference_apply V (rowOf c r) j (real_gates hA hx hk c r)]
  simp only [hA.x]
  rw [halfAt_eq hA, halfAt_eq hA]
  exact pairs_sum c fun e => fo V (rowOf c r) j e * Ideal.div (wt (gt V (rowOf c r)) e) (denom (gt V (rowOf c r)))

end

end Cert.MoeRun

namespace Cert.Proof

open Idealize Idealize.ShloMosaic Idealize.ShloMosaic.TcCoe Idealize.ShloMosaic.StableHlo Idealize.SL.Sem
open Cert.MoeRun

/-- Where `x` and the router are finite, the kernel on eight devices and the reference on one end with the same result, each
    device holding its block of rows. -/
theorem algebraic : Cert.algebraic_KernelIdeal_ReferenceIdeal_pre_finite_gating_KernelIdeal := fun m g m' g' hpre hag => by
  let V := launchContents m' (0 : Dev Cert.ReferenceIdeal.nD)
  have hA : Agrees V m g :=
    { x := fun c r d => by rw [xstg_eq, (hag c).1]; exact rows_block c _ r d
      k := fun c d e => by rw [rstg_eq, (hag c).2.1]; exact columns_block c _ d e
      a := fun c e d f => by rw [w1stg_eq, (hag c).2.2.1]; exact planes_block c 512 1024 _ _ e d f
      b := fun c e f j => by rw [w2stg_eq, (hag c).2.2.2]; exact planes_block c 1024 512 _ _ e f j }
  have hx : ∀ c r d, IsReal (xstg m g c (ix2 r d)) := fun c r d => by
    rw [xstg_eq]; exact real_x _ _ _ _ (hpre c).1 r d
  have hk : ∀ c d e, IsReal (rstg m g c (ix2 d e)) := fun c d e => by
    rw [rstg_eq]; exact real_k _ _ _ _ (hpre c).2 d e
  have hout : ∀ c, outAt m g c = Layout.blockN ⟨2, ![256, 512]⟩ ⟨2, ![512, 512]⟩ (Layout.meshBlock [2, 2, 2] ![[2], []] c)
      (Cert.ReferenceIdeal.Value.res_main_v162 V) := fun c => funext fun i => by
    obtain ⟨r, j, rfl⟩ : ∃ (r : Fin 256) (j : Fin 512), i = ix2 r j := ⟨i 0, i 1, (ix2_eta i).symm⟩
    exact (out_eq hA hx hk c r j).trans (rows_block c _ r j).symm
  refine ⟨Cert.ReferenceIdeal.Value.res_main_v162 V, ?_, ?_⟩
  · exact (θ_run Cert.KernelIdeal.defs _ _).mono (fun r h c => ⟨(h.1 c).1.trans (hout c), (h.1 c).2⟩) (run_stated (F := Ideal) m g)
  · exact (θ_run Cert.ReferenceIdeal.defs _ _).mono (fun r h => h 0) (Cert.ReferenceIdeal.Value.run (F := Ideal) m' g')

end Cert.Proof

end
-- ==== Proof.lean ====
/- The certificate: the frames from the one run of Proof/Run.lean, the value claim from Proof/Algebraic.lean. -/
module

public import proofs.«01_k».proof.Defs
public import proofs.«01_k».proof.Proof.Frames
public import proofs.«01_k».proof.Proof.Algebraic

@[expose] public section

noncomputable section

namespace Cert.Proof

/-- The predicate's side conditions hold at the reference's shapes. -/
theorem preFactsReference : Cert.Pre_finite_gating_ReferenceIdeal.Facts := ⟨by decide, by decide, by decide⟩

/-- Everything that is claimed. -/
theorem claim : Cert.Claim := ⟨Cert.Kernel.Gen.facts, Cert.KernelIdeal.Gen.facts, Cert.ReferenceIdeal.Gen.facts,
  Cert.MoeRun.preFacts, preFactsReference, frame_kernel, frame_kernelIdeal, fun m ρ _ => frame_kernelIdeal m ρ trivial,
  frame_reference, fun m ρ _ => frame_reference m ρ trivial, trivial, algebraic⟩

end Cert.Proof

end
